-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_norm_w [hPre_finite_norm_w : Cert.Pre_finite_norm_w.Facts] (m : (ℓ : Loc Cert.KernelIdeal.nD Cert.KernelIdeal.τ Cert.KernelIdeal.sig) → Buf (Elt Ideal) ℓ) : Prop :=
  ∀ c : Dev Cert.KernelIdeal.nD,
    (Cert.Pre_finite_norm_w.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_norm_w [hPre_finite_norm_w : Cert.Pre_finite_norm_w.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_norm_w.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_norm_w [hKernelIdeal : Cert.KernelIdeal.Facts] [hPre_finite_norm_w : Cert.Pre_finite_norm_w.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_norm_w m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_norm_w [hReferenceIdeal : Cert.ReferenceIdeal.Facts] [hPre_finite_norm_w : Cert.Pre_finite_norm_w.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_norm_w m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.bf16_pair.PackStatement Cert.KernelIdeal.S512x128
  ∧ IdealRules.bf16_pair.Statement Cert.KernelIdeal.S512x2x128 Cert.KernelIdeal.S512x1x128

def algebraic_KernelIdeal_ReferenceIdeal_pre_finite_norm_w [hKernelIdeal : Cert.KernelIdeal.Facts] [hReferenceIdeal : Cert.ReferenceIdeal.Facts] [hPre_finite_norm_w : Cert.Pre_finite_norm_w.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_norm_w m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_v4_2) = v2 c
          ∧ r.2.mem ((c.tc : Thread Cert.ReferenceIdeal.nD Cert.ReferenceIdeal.τ).loc Cert.ReferenceIdeal.main_v4_3) = v3 c
          ∧ r.2.mem ((c.tc : Thread Cert.ReferenceIdeal.nD Cert.ReferenceIdeal.τ).loc Cert.ReferenceIdeal.main_v4_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_norm_w : Cert.Pre_finite_norm_w.Facts),
    quiescent_Kernel (hKernel := hKernel)
    ∧ quiescent_KernelIdeal (hKernelIdeal := hKernelIdeal)
    ∧ quiescent_KernelIdeal_pre_finite_norm_w (hKernelIdeal := hKernelIdeal) (hPre_finite_norm_w := hPre_finite_norm_w)
    ∧ quiescent_ReferenceIdeal (hReferenceIdeal := hReferenceIdeal)
    ∧ quiescent_ReferenceIdeal_pre_finite_norm_w (hReferenceIdeal := hReferenceIdeal) (hPre_finite_norm_w := hPre_finite_norm_w)
    ∧ preserves_Kernel_KernelIdeal
    ∧ algebraic_KernelIdeal_ReferenceIdeal_pre_finite_norm_w (hKernelIdeal := hKernelIdeal) (hReferenceIdeal := hReferenceIdeal) (hPre_finite_norm_w := hPre_finite_norm_w)
-- ==== Pre_finite_norm_w.lean ====
abbrev S24x1536x2048 : Shape := ⟨3, ![24, 1536, 2048]⟩
abbrev S2048 : Shape := ⟨1, ![2048]⟩
abbrev S2048x4096 : Shape := ⟨2, ![2048, 4096]⟩
abbrev S16x32 : Shape := ⟨2, ![16, 32]⟩
abbrev S128 : Shape := ⟨1, ![128]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel

variable [Facts]

def fn {F : FTy → Type} [FloatOps F] (main_arg0 : FVec F S24x1536x2048 .bf16) (main_arg1 : FVec F S2048 .f32) (main_arg2 : FVec F S2048x4096 .fp8e4m3) (main_arg3 : FVec F S16x32 .f32) (main_arg4 : FVec F S128 .f32) (main_arg5 : FVec F S128 .f32) : IVec S_ 1 :=
  let main_v0 : FVec F S2048 .f32 := Host.absf main_arg1
  let main_cst : FVec F S_ .f32 := constant S_ .f32 0x7F7FFFFF#32
  let main_v1 : FVec F S2048 .f32 := broadcastInDim S2048 ![] bcast_S_S2048 main_cst
  let main_v2 : IVec S2048 1 := cmpf .ole main_v0 main_v1
  let main_c : IVec S_ 1 := constantI S_ 1 1#1
  let main_v3 : IVec S_ 1 := (fun x v => Host.reduce IntOp.andi x v reducesTo_S2048_S_d0 h_S_) main_v2 main_c
  main_v3
-- ==== Kernel.lean ====
abbrev S24x1536x2048 : Shape := ⟨3, ![24, 1536, 2048]⟩
abbrev S2048 : Shape := ⟨1, ![2048]⟩
abbrev S2048x4096 : Shape := ⟨2, ![2048, 4096]⟩
abbrev S16x32 : Shape := ⟨2, ![16, 32]⟩
abbrev S128 : Shape := ⟨1, ![128]⟩
abbrev S36864x2048 : Shape := ⟨2, ![36864, 2048]⟩
abbrev S1x2048 : Shape := ⟨2, ![1, 2048]⟩
abbrev S1x128 : Shape := ⟨2, ![1, 128]⟩
abbrev S36864x16x128 : Shape := ⟨3, ![36864, 16, 128]⟩
abbrev S36864x8x128 : Shape := ⟨3, ![36864, 8, 128]⟩
abbrev S36864x16 : Shape := ⟨2, ![36864, 16]⟩
abbrev S512x2048 : Shape := ⟨2, ![512, 2048]⟩
abbrev S512x16x128 : Shape := ⟨3, ![512, 16, 128]⟩
abbrev S512x8x128 : Shape := ⟨3, ![512, 8, 128]⟩
abbrev S512x16 : Shape := ⟨2, ![512, 16]⟩
abbrev S128x128 : Shape := ⟨2, ![128, 128]⟩
abbrev S1x1 : Shape := ⟨2, ![1, 1]⟩
abbrev S32x128 : Shape := ⟨2, ![32, 128]⟩
abbrev S32 : Shape := ⟨1, ![32]⟩
abbrev S32x1 : Shape := ⟨2, ![32, 1]⟩
abbrev S32x16 : Shape := ⟨2, ![32, 16]⟩
abbrev S2048x256 : Shape := ⟨2, ![2048, 256]⟩
abbrev S512x256 : Shape := ⟨2, ![512, 256]⟩
abbrev S512x128 : Shape := ⟨2, ![512, 128]⟩
abbrev S512 : Shape := ⟨1, ![512]⟩
abbrev S512x1 : Shape := ⟨2, ![512, 1]⟩
abbrev S4096x128 : Shape := ⟨2, ![4096, 128]⟩
abbrev S512x2x128 : Shape := ⟨3, ![512, 2, 128]⟩
abbrev S512x1x128 : Shape := ⟨3, ![512, 1, 128]⟩
abbrev S512x4x128 : Shape := ⟨3, ![512, 4, 128]⟩
abbrev S2048x128 : Shape := ⟨2, ![2048, 128]⟩

abbrev nBuf : Space → Nat
  | .hbm => 15
  | .vmem => 18
  | .smem => 1
  | _ => 0

abbrev bufTy : (tb : Table) → Fin (tcTables nBuf tb) → BufTy
  | .hbm, ⟨0, _⟩ => ⟨S24x1536x2048, .bf16⟩
  | .hbm, ⟨1, _⟩ => ⟨S2048, .f32⟩
  | .hbm, ⟨2, _⟩ => ⟨S2048x4096, .fp8e4m3⟩
  | .hbm, ⟨3, _⟩ => ⟨S16x32, .f32⟩
  | .hbm, ⟨4, _⟩ => ⟨S128, .f32⟩
  | .hbm, ⟨5, _⟩ => ⟨S128, .f32⟩
  | .hbm, ⟨6, _⟩ => ⟨S36864x2048, .bf16⟩
  | .hbm, ⟨7, _⟩ => ⟨S1x2048, .f32⟩
  | .hbm, ⟨8, _⟩ => ⟨S1x128, .f32⟩
  | .hbm, ⟨9, _⟩ => ⟨S1x128, .f32⟩
  | .hbm, ⟨10, _⟩ => ⟨S36864x16x128, .bf16⟩
  | .hbm, ⟨11, _⟩ => ⟨S36864x8x128, .bf16⟩
  | .hbm, ⟨12, _⟩ => ⟨S36864x8x128, .bf16⟩
  | .hbm, ⟨13, _⟩ => ⟨S36864x2048, .fp8e4m3⟩
  | .hbm, ⟨14, _⟩ => ⟨S36864x16, .f32⟩
  | .local _ .vmem, ⟨0, _⟩ => ⟨S512x2048, .bf16⟩
  | .local _ .vmem, ⟨1, _⟩ => ⟨S512x2048, .bf16⟩
  | .local _ .vmem, ⟨2, _⟩ => ⟨S1x2048, .f32⟩
  | .local _ .vmem, ⟨3, _⟩ => ⟨S2048x4096, .fp8e4m3⟩
  | .local _ .vmem, ⟨4, _⟩ => ⟨S1x128, .f32⟩
  | .local _ .vmem, ⟨5, _⟩ => ⟨S1x128, .f32⟩
  | .local _ .vmem, ⟨6, _⟩ => ⟨S512x16x128, .bf16⟩
  | .local _ .vmem, ⟨7, _⟩ => ⟨S512x16x128, .bf16⟩
  | .local _ .vmem, ⟨8, _⟩ => ⟨S512x8x128, .bf16⟩
  | .local _ .vmem, ⟨9, _⟩ => ⟨S512x8x128, .bf16⟩
  | .local _ .vmem, ⟨10, _⟩ => ⟨S512x8x128, .bf16⟩
  | .local _ .vmem, ⟨11, _⟩ => ⟨S512x8x128, .bf16⟩
  | .local _ .vmem, ⟨12, _⟩ => ⟨S512x2048, .fp8e4m3⟩
  | .local _ .vmem, ⟨13, _⟩ => ⟨S512x2048, .fp8e4m3⟩
  | .local _ .vmem, ⟨14, _⟩ => ⟨S512x16, .f32⟩
  | .local _ .vmem, ⟨15, _⟩ => ⟨S512x16, .f32⟩
  | .local _ .vmem, ⟨16, _⟩ => ⟨S2048x4096, .bf16⟩
  | .local _ .vmem, ⟨17, _⟩ => ⟨S512x2048, .bf16⟩
  | .local _ .smem, ⟨0, _⟩ => ⟨S16x32, .f32⟩
  | _, _ => ⟨S24x1536x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [BitOps F]

abbrev grid0 : Pipeline.Grid := ⟨1, ![72], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_211 : BitVec 32 := 0#32
  let c16_i32_212 : BitVec 32 := 16#32
  let v484 : BitVec 32 := Scalar.addi c0_i32_211 c16_i32_212
  let c1_i32_213 : BitVec 32 := 1#32
  ⟨c0_i32_211, v484, c1_i32_213⟩
def k0_mult1 (k0_t1 : Fin k0_t1_loop.trips) : BitVec 32 :=
  let c0_i32_211 : BitVec 32 := 0#32
  let c1_i32_213 : BitVec 32 := 1#32
  let arg14 : BitVec 32 := Scf.iv c0_i32_211 c1_i32_213 k0_t1
  let c128_i32 : BitVec 32 := 128#32
  let v485 : BitVec 32 := Scalar.muli arg14 c128_i32
  v485
def k0_off1 (k0_t1 : Fin k0_t1_loop.trips) : Fin 2 → Nat :=
  let c0_i32_211 : BitVec 32 := 0#32
  let c1_i32_213 : BitVec 32 := 1#32
  let arg14 : BitVec 32 := Scf.iv c0_i32_211 c1_i32_213 k0_t1
  let c128_i32 : BitVec 32 := 128#32
  let v485 : BitVec 32 := Scalar.muli arg14 c128_i32
  let v486 : BitVec 32 := v485
  let v487 : Index := Scalar.indexCast v486
  let c0_215 : Index := 0#32
  ![v487.toNat, 0]
def k0_off2 (k0_t1 : Fin k0_t1_loop.trips) : Fin 2 → Nat :=
  let c0_i32_211 : BitVec 32 := 0#32
  let c1_i32_213 : BitVec 32 := 1#32
  let arg14 : BitVec 32 := Scf.iv c0_i32_211 c1_i32_213 k0_t1
  let v490 : Index := Scalar.indexCast arg14
  let c0_216 : Index := 0#32
  ![v490.toNat, 0]
def k0_off3 (k0_t1 : Fin k0_t1_loop.trips) : Fin 2 → Nat :=
  let c0_i32_211 : BitVec 32 := 0#32
  let c1_i32_213 : BitVec 32 := 1#32
  let arg14 : BitVec 32 := Scf.iv c0_i32_211 c1_i32_213 k0_t1
  let c128_i32 : BitVec 32 := 128#32
  let v485 : BitVec 32 := Scalar.muli arg14 c128_i32
  let v486 : BitVec 32 := v485
  let v499 : Index := Scalar.indexCast v486
  let c128 : Index := 128#32
  ![v499.toNat, 128]
def k0_off4 (k0_t1 : Fin k0_t1_loop.trips) : Fin 2 → Nat :=
  let c0_i32_211 : BitVec 32 := 0#32
  let c1_i32_213 : BitVec 32 := 1#32
  let arg14 : BitVec 32 := Scf.iv c0_i32_211 c1_i32_213 k0_t1
  let v502 : Index := Scalar.indexCast arg14
  let c1_218 : Index := 1#32
  ![v502.toNat, 1]
def k0_off5 (k0_t1 : Fin k0_t1_loop.trips) : Fin 2 → Nat :=
  let c0_i32_211 : BitVec 32 := 0#32
  let c1_i32_213 : BitVec 32 := 1#32
  let arg14 : BitVec 32 := Scf.iv c0_i32_211 c1_i32_213 k0_t1
  let c128_i32 : BitVec 32 := 128#32
  let v485 : BitVec 32 := Scalar.muli arg14 c128_i32
  let v486 : BitVec 32 := v485
  let v511 : Index := Scalar.indexCast v486
  let c256_220 : Index := 256#32
  ![v511.toNat, 256]
def k0_off6 (k0_t1 : Fin k0_t1_loop.trips) : Fin 2 → Nat :=
  let c0_i32_211 : BitVec 32 := 0#32
  let c1_i32_213 : BitVec 32 := 1#32
  let arg14 : BitVec 32 := Scf.iv c0_i32_211 c1_i32_213 k0_t1
  let v514 : Index := Scalar.indexCast arg14
  let c2_221 : Index := 2#32
  ![v514.toNat, 2]
def k0_off7 (k0_t1 : Fin k0_t1_loop.trips) : Fin 2 → Nat :=
  let c0_i32_211 : BitVec 32 := 0#32
  let c1_i32_213 : BitVec 32 := 1#32
  let arg14 : BitVec 32 := Scf.iv c0_i32_211 c1_i32_213 k0_t1
  let c128_i32 : BitVec 32 := 128#32
  let v485 : BitVec 32 := Scalar.muli arg14 c128_i32
  let v486 : BitVec 32 := v485
  let v523 : Index := Scalar.indexCast v486
  let c384 : Index := 384#32
  ![v523.toNat, 384]
def k0_off8 (k0_t1 : Fin k0_t1_loop.trips) : Fin 2 → Nat :=
  let c0_i32_211 : BitVec 32 := 0#32
  let c1_i32_213 : BitVec 32 := 1#32
  let arg14 : BitVec 32 := Scf.iv c0_i32_211 c1_i32_213 k0_t1
  let v526 : Index := Scalar.indexCast arg14
  let c3_223 : Index := 3#32
  ![v526.toNat, 3]
def k0_off9 (k0_t1 : Fin k0_t1_loop.trips) : Fin 2 → Nat :=
  let c0_i32_211 : BitVec 32 := 0#32
  let c1_i32_213 : BitVec 32 := 1#32
  let arg14 : BitVec 32 := Scf.iv c0_i32_211 c1_i32_213 k0_t1
  let c128_i32 : BitVec 32 := 128#32
  let v485 : BitVec 32 := Scalar.muli arg14 c128_i32
  let v486 : BitVec 32 := v485
  let v535 : Index := Scalar.indexCast v486
  let c512_225 : Index := 512#32
  ![v535.toNat, 512]
def k0_off10 (k0_t1 : Fin k0_t1_loop.trips) : Fin 2 → Nat :=
  let c0_i32_211 : BitVec 32 := 0#32
  let c1_i32_213 : BitVec 32 := 1#32
  let arg14 : BitVec 32 := Scf.iv c0_i32_211 c1_i32_213 k0_t1
  let v538 : Index := Scalar.indexCast arg14
  let c4_226 : Index := 4#32
  ![v538.toNat, 4]
def k0_off11 (k0_t1 : Fin k0_t1_loop.trips) : Fin 2 → Nat :=
  let c0_i32_211 : BitVec 32 := 0#32
  let c1_i32_213 : BitVec 32 := 1#32
  let arg14 : BitVec 32 := Scf.iv c0_i32_211 c1_i32_213 k0_t1
  let c128_i32 : BitVec 32 := 128#32
  let v485 : BitVec 32 := Scalar.muli arg14 c128_i32
  let v486 : BitVec 32 := v485
  let v547 : Index := Scalar.indexCast v486
  let c640 : Index := 640#32
  ![v547.toNat, 640]
def k0_off12 (k0_t1 : Fin k0_t1_loop.trips) : Fin 2 → Nat :=
  let c0_i32_211 : BitVec 32 := 0#32
  let c1_i32_213 : BitVec 32 := 1#32
  let arg14 : BitVec 32 := Scf.iv c0_i32_211 c1_i32_213 k0_t1
  let v550 : Index := Scalar.indexCast arg14
  let c5_228 : Index := 5#32
  ![v550.toNat, 5]
def k0_off13 (k0_t1 : Fin k0_t1_loop.trips) : Fin 2 → Nat :=
  let c0_i32_211 : BitVec 32 := 0#32
  let c1_i32_213 : BitVec 32 := 1#32
  let arg14 : BitVec 32 := Scf.iv c0_i32_211 c1_i32_213 k0_t1
  let c128_i32 : BitVec 32 := 128#32
  let v485 : BitVec 32 := Scalar.muli arg14 c128_i32
  let v486 : BitVec 32 := v485
  let v559 : Index := Scalar.indexCast v486
  let c768_230 : Index := 768#32
  ![v559.toNat, 768]
def k0_off14 (k0_t1 : Fin k0_t1_loop.trips) : Fin 2 → Nat :=
  let c0_i32_211 : BitVec 32 := 0#32
  let c1_i32_213 : BitVec 32 := 1#32
  let arg14 : BitVec 32 := Scf.iv c0_i32_211 c1_i32_213 k0_t1
  let v562 : Index := Scalar.indexCast arg14
  let c6_231 : Index := 6#32
  ![v562.toNat, 6]
def k0_off15 (k0_t1 : Fin k0_t1_loop.trips) : Fin 2 → Nat :=
  let c0_i32_211 : BitVec 32 := 0#32
  let c1_i32_213 : BitVec 32 := 1#32
  let arg14 : BitVec 32 := Scf.iv c0_i32_211 c1_i32_213 k0_t1
  let c128_i32 : BitVec 32 := 128#32
  let v485 : BitVec 32 := Scalar.muli arg14 c128_i32
  let v486 : BitVec 32 := v485
  let v571 : Index := Scalar.indexCast v486
  let c896 : Index := 896#32
  ![v571.toNat, 896]
def k0_off16 (k0_t1 : Fin k0_t1_loop.trips) : Fin 2 → Nat :=
  let c0_i32_211 : BitVec 32 := 0#32
  let c1_i32_213 : BitVec 32 := 1#32
  let arg14 : BitVec 32 := Scf.iv c0_i32_211 c1_i32_213 k0_t1
  let v574 : Index := Scalar.indexCast arg14
  let c7_233 : Index := 7#32
  ![v574.toNat, 7]
def k0_off17 (k0_t1 : Fin k0_t1_loop.trips) : Fin 2 → Nat :=
  let c0_i32_211 : BitVec 32 := 0#32
  let c1_i32_213 : BitVec 32 := 1#32
  let arg14 : BitVec 32 := Scf.iv c0_i32_211 c1_i32_213 k0_t1
  let c128_i32 : BitVec 32 := 128#32
  let v485 : BitVec 32 := Scalar.muli arg14 c128_i32
  let v486 : BitVec 32 := v485
  let v583 : Index := Scalar.indexCast v486
  let c1024_235 : Index := 1024#32
  ![v583.toNat, 1024]
def k0_off18 (k0_t1 : Fin k0_t1_loop.trips) : Fin 2 → Nat :=
  let c0_i32_211 : BitVec 32 := 0#32
  let c1_i32_213 : BitVec 32 := 1#32
  let arg14 : BitVec 32 := Scf.iv c0_i32_211 c1_i32_213 k0_t1
  let v586 : Index := Scalar.indexCast arg14
  let c8 : Index := 8#32
  ![v586.toNat, 8]
def k0_off19 (k0_t1 : Fin k0_t1_loop.trips) : Fin 2 → Nat :=
  let c0_i32_211 : BitVec 32 := 0#32
  let c1_i32_213 : BitVec 32 := 1#32
  let arg14 : BitVec 32 := Scf.iv c0_i32_211 c1_i32_213 k0_t1
  let c128_i32 : BitVec 32 := 128#32
  let v485 : BitVec 32 := Scalar.muli arg14 c128_i32
  let v486 : BitVec 32 := v485
  let v595 : Index := Scalar.indexCast v486
  let c1152 : Index := 1152#32
  ![v595.toNat, 1152]
def k0_off20 (k0_t1 : Fin k0_t1_loop.trips) : Fin 2 → Nat :=
  let c0_i32_211 : BitVec 32 := 0#32
  let c1_i32_213 : BitVec 32 := 1#32
  let arg14 : BitVec 32 := Scf.iv c0_i32_211 c1_i32_213 k0_t1
  let v598 : Index := Scalar.indexCast arg14
  let c9 : Index := 9#32
  ![v598.toNat, 9]
def k0_off21 (k0_t1 : Fin k0_t1_loop.trips) : Fin 2 → Nat :=
  let c0_i32_211 : BitVec 32 := 0#32
  let c1_i32_213 : BitVec 32 := 1#32
  let arg14 : BitVec 32 := Scf.iv c0_i32_211 c1_i32_213 k0_t1
  let c128_i32 : BitVec 32 := 128#32
  let v485 : BitVec 32 := Scalar.muli arg14 c128_i32
  let v486 : BitVec 32 := v485
  let v607 : Index := Scalar.indexCast v486
  let c1280_238 : Index := 1280#32
  ![v607.toNat, 1280]
def k0_off22 (k0_t1 : Fin k0_t1_loop.trips) : Fin 2 → Nat :=
  let c0_i32_211 : BitVec 32 := 0#32
  let c1_i32_213 : BitVec 32 := 1#32
  let arg14 : BitVec 32 := Scf.iv c0_i32_211 c1_i32_213 k0_t1
  let v610 : Index := Scalar.indexCast arg14
  let c10 : Index := 10#32
  ![v610.toNat, 10]
def k0_off23 (k0_t1 : Fin k0_t1_loop.trips) : Fin 2 → Nat :=
  let c0_i32_211 : BitVec 32 := 0#32
  let c1_i32_213 : BitVec 32 := 1#32
  let arg14 : BitVec 32 := Scf.iv c0_i32_211 c1_i32_213 k0_t1
  let c128_i32 : BitVec 32 := 128#32
  let v485 : BitVec 32 := Scalar.muli arg14 c128_i32
  let v486 : BitVec 32 := v485
  let v619 : Index := Scalar.indexCast v486
  let c1408 : Index := 1408#32
  ![v619.toNat, 1408]
def k0_off24 (k0_t1 : Fin k0_t1_loop.trips) : Fin 2 → Nat :=
  let c0_i32_211 : BitVec 32 := 0#32
  let c1_i32_213 : BitVec 32 := 1#32
  let arg14 : BitVec 32 := Scf.iv c0_i32_211 c1_i32_213 k0_t1
  let v622 : Index := Scalar.indexCast arg14
  let c11 : Index := 11#32
  ![v622.toNat, 11]
def k0_off25 (k0_t1 : Fin k0_t1_loop.trips) : Fin 2 → Nat :=
  let c0_i32_211 : BitVec 32 := 0#32
  let c1_i32_213 : BitVec 32 := 1#32
  let arg14 : BitVec 32 := Scf.iv c0_i32_211 c1_i32_213 k0_t1
  let c128_i32 : BitVec 32 := 128#32
  let v485 : BitVec 32 := Scalar.muli arg14 c128_i32
  let v486 : BitVec 32 := v485
  let v631 : Index := Scalar.indexCast v486
  let c1536_241 : Index := 1536#32
  ![v631.toNat, 1536]
def k0_off26 (k0_t1 : Fin k0_t1_loop.trips) : Fin 2 → Nat :=
  let c0_i32_211 : BitVec 32 := 0#32
  let c1_i32_213 : BitVec 32 := 1#32
  let arg14 : BitVec 32 := Scf.iv c0_i32_211 c1_i32_213 k0_t1
  let v634 : Index := Scalar.indexCast arg14
  let c12 : Index := 12#32
  ![v634.toNat, 12]
def k0_off27 (k0_t1 : Fin k0_t1_loop.trips) : Fin 2 → Nat :=
  let c0_i32_211 : BitVec 32 := 0#32
  let c1_i32_213 : BitVec 32 := 1#32
  let arg14 : BitVec 32 := Scf.iv c0_i32_211 c1_i32_213 k0_t1
  let c128_i32 : BitVec 32 := 128#32
  let v485 : BitVec 32 := Scalar.muli arg14 c128_i32
  let v486 : BitVec 32 := v485
  let v643 : Index := Scalar.indexCast v486
  let c1664 : Index := 1664#32
  ![v643.toNat, 1664]
def k0_off28 (k0_t1 : Fin k0_t1_loop.trips) : Fin 2 → Nat :=
  let c0_i32_211 : BitVec 32 := 0#32
  let c1_i32_213 : BitVec 32 := 1#32
  let arg14 : BitVec 32 := Scf.iv c0_i32_211 c1_i32_213 k0_t1
  let v646 : Index := Scalar.indexCast arg14
  let c13 : Index := 13#32
  ![v646.toNat, 13]
def k0_off29 (k0_t1 : Fin k0_t1_loop.trips) : Fin 2 → Nat :=
  let c0_i32_211 : BitVec 32 := 0#32
  let c1_i32_213 : BitVec 32 := 1#32
  let arg14 : BitVec 32 := Scf.iv c0_i32_211 c1_i32_213 k0_t1
  let c128_i32 : BitVec 32 := 128#32
  let v485 : BitVec 32 := Scalar.muli arg14 c128_i32
  let v486 : BitVec 32 := v485
  let v655 : Index := Scalar.indexCast v486
  let c1792_244 : Index := 1792#32
  ![v655.toNat, 1792]
def k0_off30 (k0_t1 : Fin k0_t1_loop.trips) : Fin 2 → Nat :=
  let c0_i32_211 : BitVec 32 := 0#32
  let c1_i32_213 : BitVec 32 := 1#32
  let arg14 : BitVec 32 := Scf.iv c0_i32_211 c1_i32_213 k0_t1
  let v658 : Index := Scalar.indexCast arg14
  let c14 : Index := 14#32
  ![v658.toNat, 14]
def k0_off31 (k0_t1 : Fin k0_t1_loop.trips) : Fin 2 → Nat :=
  let c0_i32_211 : BitVec 32 := 0#32
  let c1_i32_213 : BitVec 32 := 1#32
  let arg14 : BitVec 32 := Scf.iv c0_i32_211 c1_i32_213 k0_t1
  let c128_i32 : BitVec 32 := 128#32
  let v485 : BitVec 32 := Scalar.muli arg14 c128_i32
  let v486 : BitVec 32 := v485
  let v667 : Index := Scalar.indexCast v486
  let c1920 : Index := 1920#32
  ![v667.toNat, 1920]
def k0_off32 (k0_t1 : Fin k0_t1_loop.trips) : Fin 2 → Nat :=
  let c0_i32_211 : BitVec 32 := 0#32
  let c1_i32_213 : BitVec 32 := 1#32
  let arg14 : BitVec 32 := Scf.iv c0_i32_211 c1_i32_213 k0_t1
  let v670 : Index := Scalar.indexCast arg14
  let c15 : Index := 15#32
  ![v670.toNat, 15]
def k0_off33 (k0_t1 : Fin k0_t1_loop.trips) : Fin 2 → Nat :=
  let c0_i32_211 : BitVec 32 := 0#32
  let c1_i32_213 : BitVec 32 := 1#32
  let arg14 : BitVec 32 := Scf.iv c0_i32_211 c1_i32_213 k0_t1
  let c128_i32 : BitVec 32 := 128#32
  let v485 : BitVec 32 := Scalar.muli arg14 c128_i32
  let v486 : BitVec 32 := v485
  let v679 : Index := Scalar.indexCast v486
  let c2048_247 : Index := 2048#32
  ![v679.toNat, 2048]
def k0_off34 (k0_t1 : Fin k0_t1_loop.trips) : Fin 2 → Nat :=
  let c0_i32_211 : BitVec 32 := 0#32
  let c1_i32_213 : BitVec 32 := 1#32
  let arg14 : BitVec 32 := Scf.iv c0_i32_211 c1_i32_213 k0_t1
  let v682 : Index := Scalar.indexCast arg14
  let c16 : Index := 16#32
  ![v682.toNat, 16]
def k0_off35 (k0_t1 : Fin k0_t1_loop.trips) : Fin 2 → Nat :=
  let c0_i32_211 : BitVec 32 := 0#32
  let c1_i32_213 : BitVec 32 := 1#32
  let arg14 : BitVec 32 := Scf.iv c0_i32_211 c1_i32_213 k0_t1
  let c128_i32 : BitVec 32 := 128#32
  let v485 : BitVec 32 := Scalar.muli arg14 c128_i32
  let v486 : BitVec 32 := v485
  let v691 : Index := Scalar.indexCast v486
  let c2176 : Index := 2176#32
  ![v691.toNat, 2176]
def k0_off36 (k0_t1 : Fin k0_t1_loop.trips) : Fin 2 → Nat :=
  let c0_i32_211 : BitVec 32 := 0#32
  let c1_i32_213 : BitVec 32 := 1#32
  let arg14 : BitVec 32 := Scf.iv c0_i32_211 c1_i32_213 k0_t1
  let v694 : Index := Scalar.indexCast arg14
  let c17 : Index := 17#32
  ![v694.toNat, 17]
def k0_off37 (k0_t1 : Fin k0_t1_loop.trips) : Fin 2 → Nat :=
  let c0_i32_211 : BitVec 32 := 0#32
  let c1_i32_213 : BitVec 32 := 1#32
  let arg14 : BitVec 32 := Scf.iv c0_i32_211 c1_i32_213 k0_t1
  let c128_i32 : BitVec 32 := 128#32
  let v485 : BitVec 32 := Scalar.muli arg14 c128_i32
  let v486 : BitVec 32 := v485
  let v703 : Index := Scalar.indexCast v486
  let c2304_250 : Index := 2304#32
  ![v703.toNat, 2304]
def k0_off38 (k0_t1 : Fin k0_t1_loop.trips) : Fin 2 → Nat :=
  let c0_i32_211 : BitVec 32 := 0#32
  let c1_i32_213 : BitVec 32 := 1#32
  let arg14 : BitVec 32 := Scf.iv c0_i32_211 c1_i32_213 k0_t1
  let v706 : Index := Scalar.indexCast arg14
  let c18 : Index := 18#32
  ![v706.toNat, 18]
def k0_off39 (k0_t1 : Fin k0_t1_loop.trips) : Fin 2 → Nat :=
  let c0_i32_211 : BitVec 32 := 0#32
  let c1_i32_213 : BitVec 32 := 1#32
  let arg14 : BitVec 32 := Scf.iv c0_i32_211 c1_i32_213 k0_t1
  let c128_i32 : BitVec 32 := 128#32
  let v485 : BitVec 32 := Scalar.muli arg14 c128_i32
  let v486 : BitVec 32 := v485
  let v715 : Index := Scalar.indexCast v486
  let c2432 : Index := 2432#32
  ![v715.toNat, 2432]
def k0_off40 (k0_t1 : Fin k0_t1_loop.trips) : Fin 2 → Nat :=
  let c0_i32_211 : BitVec 32 := 0#32
  let c1_i32_213 : BitVec 32 := 1#32
  let arg14 : BitVec 32 := Scf.iv c0_i32_211 c1_i32_213 k0_t1
  let v718 : Index := Scalar.indexCast arg14
  let c19 : Index := 19#32
  ![v718.toNat, 19]
def k0_off41 (k0_t1 : Fin k0_t1_loop.trips) : Fin 2 → Nat :=
  let c0_i32_211 : BitVec 32 := 0#32
  let c1_i32_213 : BitVec 32 := 1#32
  let arg14 : BitVec 32 := Scf.iv c0_i32_211 c1_i32_213 k0_t1
  let c128_i32 : BitVec 32 := 128#32
  let v485 : BitVec 32 := Scalar.muli arg14 c128_i32
  let v486 : BitVec 32 := v485
  let v727 : Index := Scalar.indexCast v486
  let c2560_253 : Index := 2560#32
  ![v727.toNat, 2560]
def k0_off42 (k0_t1 : Fin k0_t1_loop.trips) : Fin 2 → Nat :=
  let c0_i32_211 : BitVec 32 := 0#32
  let c1_i32_213 : BitVec 32 := 1#32
  let arg14 : BitVec 32 := Scf.iv c0_i32_211 c1_i32_213 k0_t1
  let v730 : Index := Scalar.indexCast arg14
  let c20 : Index := 20#32
  ![v730.toNat, 20]
def k0_off43 (k0_t1 : Fin k0_t1_loop.trips) : Fin 2 → Nat :=
  let c0_i32_211 : BitVec 32 := 0#32
  let c1_i32_213 : BitVec 32 := 1#32
  let arg14 : BitVec 32 := Scf.iv c0_i32_211 c1_i32_213 k0_t1
  let c128_i32 : BitVec 32 := 128#32
  let v485 : BitVec 32 := Scalar.muli arg14 c128_i32
  let v486 : BitVec 32 := v485
  let v739 : Index := Scalar.indexCast v486
  let c2688 : Index := 2688#32
  ![v739.toNat, 2688]
def k0_off44 (k0_t1 : Fin k0_t1_loop.trips) : Fin 2 → Nat :=
  let c0_i32_211 : BitVec 32 := 0#32
  let c1_i32_213 : BitVec 32 := 1#32
  let arg14 : BitVec 32 := Scf.iv c0_i32_211 c1_i32_213 k0_t1
  let v742 : Index := Scalar.indexCast arg14
  let c21 : Index := 21#32
  ![v742.toNat, 21]
def k0_off45 (k0_t1 : Fin k0_t1_loop.trips) : Fin 2 → Nat :=
  let c0_i32_211 : BitVec 32 := 0#32
  let c1_i32_213 : BitVec 32 := 1#32
  let arg14 : BitVec 32 := Scf.iv c0_i32_211 c1_i32_213 k0_t1
  let c128_i32 : BitVec 32 := 128#32
  let v485 : BitVec 32 := Scalar.muli arg14 c128_i32
  let v486 : BitVec 32 := v485
  let v751 : Index := Scalar.indexCast v486
  let c2816_256 : Index := 2816#32
  ![v751.toNat, 2816]
def k0_off46 (k0_t1 : Fin k0_t1_loop.trips) : Fin 2 → Nat :=
  let c0_i32_211 : BitVec 32 := 0#32
  let c1_i32_213 : BitVec 32 := 1#32
  let arg14 : BitVec 32 := Scf.iv c0_i32_211 c1_i32_213 k0_t1
  let v754 : Index := Scalar.indexCast arg14
  let c22 : Index := 22#32
  ![v754.toNat, 22]
def k0_off47 (k0_t1 : Fin k0_t1_loop.trips) : Fin 2 → Nat :=
  let c0_i32_211 : BitVec 32 := 0#32
  let c1_i32_213 : BitVec 32 := 1#32
  let arg14 : BitVec 32 := Scf.iv c0_i32_211 c1_i32_213 k0_t1
  let c128_i32 : BitVec 32 := 128#32
  let v485 : BitVec 32 := Scalar.muli arg14 c128_i32
  let v486 : BitVec 32 := v485
  let v763 : Index := Scalar.indexCast v486
  let c2944 : Index := 2944#32
  ![v763.toNat, 2944]
def k0_off48 (k0_t1 : Fin k0_t1_loop.trips) : Fin 2 → Nat :=
  let c0_i32_211 : BitVec 32 := 0#32
  let c1_i32_213 : BitVec 32 := 1#32
  let arg14 : BitVec 32 := Scf.iv c0_i32_211 c1_i32_213 k0_t1
  let v766 : Index := Scalar.indexCast arg14
  let c23 : Index := 23#32
  ![v766.toNat, 23]
def k0_off49 (k0_t1 : Fin k0_t1_loop.trips) : Fin 2 → Nat :=
  let c0_i32_211 : BitVec 32 := 0#32
  let c1_i32_213 : BitVec 32 := 1#32
  let arg14 : BitVec 32 := Scf.iv c0_i32_211 c1_i32_213 k0_t1
  let c128_i32 : BitVec 32 := 128#32
  let v485 : BitVec 32 := Scalar.muli arg14 c128_i32
  let v486 : BitVec 32 := v485
  let v775 : Index := Scalar.indexCast v486
  let c3072_259 : Index := 3072#32
  ![v775.toNat, 3072]
def k0_off50 (k0_t1 : Fin k0_t1_loop.trips) : Fin 2 → Nat :=
  let c0_i32_211 : BitVec 32 := 0#32
  let c1_i32_213 : BitVec 32 := 1#32
  let arg14 : BitVec 32 := Scf.iv c0_i32_211 c1_i32_213 k0_t1
  let v778 : Index := Scalar.indexCast arg14
  let c24 : Index := 24#32
  ![v778.toNat, 24]
def k0_off51 (k0_t1 : Fin k0_t1_loop.trips) : Fin 2 → Nat :=
  let c0_i32_211 : BitVec 32 := 0#32
  let c1_i32_213 : BitVec 32 := 1#32
  let arg14 : BitVec 32 := Scf.iv c0_i32_211 c1_i32_213 k0_t1
  let c128_i32 : BitVec 32 := 128#32
  let v485 : BitVec 32 := Scalar.muli arg14 c128_i32
  let v486 : BitVec 32 := v485
  let v787 : Index := Scalar.indexCast v486
  let c3200 : Index := 3200#32
  ![v787.toNat, 3200]
def k0_off52 (k0_t1 : Fin k0_t1_loop.trips) : Fin 2 → Nat :=
  let c0_i32_211 : BitVec 32 := 0#32
  let c1_i32_213 : BitVec 32 := 1#32
  let arg14 : BitVec 32 := Scf.iv c0_i32_211 c1_i32_213 k0_t1
  let v790 : Index := Scalar.indexCast arg14
  let c25 : Index := 25#32
  ![v790.toNat, 25]
def k0_off53 (k0_t1 : Fin k0_t1_loop.trips) : Fin 2 → Nat :=
  let c0_i32_211 : BitVec 32 := 0#32
  let c1_i32_213 : BitVec 32 := 1#32
  let arg14 : BitVec 32 := Scf.iv c0_i32_211 c1_i32_213 k0_t1
  let c128_i32 : BitVec 32 := 128#32
  let v485 : BitVec 32 := Scalar.muli arg14 c128_i32
  let v486 : BitVec 32 := v485
  let v799 : Index := Scalar.indexCast v486
  let c3328_262 : Index := 3328#32
  ![v799.toNat, 3328]
def k0_off54 (k0_t1 : Fin k0_t1_loop.trips) : Fin 2 → Nat :=
  let c0_i32_211 : BitVec 32 := 0#32
  let c1_i32_213 : BitVec 32 := 1#32
  let arg14 : BitVec 32 := Scf.iv c0_i32_211 c1_i32_213 k0_t1
  let v802 : Index := Scalar.indexCast arg14
  let c26 : Index := 26#32
  ![v802.toNat, 26]
def k0_off55 (k0_t1 : Fin k0_t1_loop.trips) : Fin 2 → Nat :=
  let c0_i32_211 : BitVec 32 := 0#32
  let c1_i32_213 : BitVec 32 := 1#32
  let arg14 : BitVec 32 := Scf.iv c0_i32_211 c1_i32_213 k0_t1
  let c128_i32 : BitVec 32 := 128#32
  let v485 : BitVec 32 := Scalar.muli arg14 c128_i32
  let v486 : BitVec 32 := v485
  let v811 : Index := Scalar.indexCast v486
  let c3456 : Index := 3456#32
  ![v811.toNat, 3456]
def k0_off56 (k0_t1 : Fin k0_t1_loop.trips) : Fin 2 → Nat :=
  let c0_i32_211 : BitVec 32 := 0#32
  let c1_i32_213 : BitVec 32 := 1#32
  let arg14 : BitVec 32 := Scf.iv c0_i32_211 c1_i32_213 k0_t1
  let v814 : Index := Scalar.indexCast arg14
  let c27 : Index := 27#32
  ![v814.toNat, 27]
def k0_off57 (k0_t1 : Fin k0_t1_loop.trips) : Fin 2 → Nat :=
  let c0_i32_211 : BitVec 32 := 0#32
  let c1_i32_213 : BitVec 32 := 1#32
  let arg14 : BitVec 32 := Scf.iv c0_i32_211 c1_i32_213 k0_t1
  let c128_i32 : BitVec 32 := 128#32
  let v485 : BitVec 32 := Scalar.muli arg14 c128_i32
  let v486 : BitVec 32 := v485
  let v823 : Index := Scalar.indexCast v486
  let c3584_265 : Index := 3584#32
  ![v823.toNat, 3584]
def k0_off58 (k0_t1 : Fin k0_t1_loop.trips) : Fin 2 → Nat :=
  let c0_i32_211 : BitVec 32 := 0#32
  let c1_i32_213 : BitVec 32 := 1#32
  let arg14 : BitVec 32 := Scf.iv c0_i32_211 c1_i32_213 k0_t1
  let v826 : Index := Scalar.indexCast arg14
  let c28 : Index := 28#32
  ![v826.toNat, 28]
def k0_off59 (k0_t1 : Fin k0_t1_loop.trips) : Fin 2 → Nat :=
  let c0_i32_211 : BitVec 32 := 0#32
  let c1_i32_213 : BitVec 32 := 1#32
  let arg14 : BitVec 32 := Scf.iv c0_i32_211 c1_i32_213 k0_t1
  let c128_i32 : BitVec 32 := 128#32
  let v485 : BitVec 32 := Scalar.muli arg14 c128_i32
  let v486 : BitVec 32 := v485
  let v835 : Index := Scalar.indexCast v486
  let c3712 : Index := 3712#32
  ![v835.toNat, 3712]
def k0_off60 (k0_t1 : Fin k0_t1_loop.trips) : Fin 2 → Nat :=
  let c0_i32_211 : BitVec 32 := 0#32
  let c1_i32_213 : BitVec 32 := 1#32
  let arg14 : BitVec 32 := Scf.iv c0_i32_211 c1_i32_213 k0_t1
  let v838 : Index := Scalar.indexCast arg14
  let c29 : Index := 29#32
  ![v838.toNat, 29]
def k0_off61 (k0_t1 : Fin k0_t1_loop.trips) : Fin 2 → Nat :=
  let c0_i32_211 : BitVec 32 := 0#32
  let c1_i32_213 : BitVec 32 := 1#32
  let arg14 : BitVec 32 := Scf.iv c0_i32_211 c1_i32_213 k0_t1
  let c128_i32 : BitVec 32 := 128#32
  let v485 : BitVec 32 := Scalar.muli arg14 c128_i32
  let v486 : BitVec 32 := v485
  let v847 : Index := Scalar.indexCast v486
  let c3840_268 : Index := 3840#32
  ![v847.toNat, 3840]
def k0_off62 (k0_t1 : Fin k0_t1_loop.trips) : Fin 2 → Nat :=
  let c0_i32_211 : BitVec 32 := 0#32
  let c1_i32_213 : BitVec 32 := 1#32
  let arg14 : BitVec 32 := Scf.iv c0_i32_211 c1_i32_213 k0_t1
  let v850 : Index := Scalar.indexCast arg14
  let c30 : Index := 30#32
  ![v850.toNat, 30]
def k0_off63 (k0_t1 : Fin k0_t1_loop.trips) : Fin 2 → Nat :=
  let c0_i32_211 : BitVec 32 := 0#32
  let c1_i32_213 : BitVec 32 := 1#32
  let arg14 : BitVec 32 := Scf.iv c0_i32_211 c1_i32_213 k0_t1
  let c128_i32 : BitVec 32 := 128#32
  let v485 : BitVec 32 := Scalar.muli arg14 c128_i32
  let v486 : BitVec 32 := v485
  let v859 : Index := Scalar.indexCast v486
  let c3968 : Index := 3968#32
  ![v859.toNat, 3968]
def k0_off64 (k0_t1 : Fin k0_t1_loop.trips) : Fin 2 → Nat :=
  let c0_i32_211 : BitVec 32 := 0#32
  let c1_i32_213 : BitVec 32 := 1#32
  let arg14 : BitVec 32 := Scf.iv c0_i32_211 c1_i32_213 k0_t1
  let v862 : Index := Scalar.indexCast arg14
  let c31 : Index := 31#32
  ![v862.toNat, 31]
@[reducible] def k0_t2_loop : Scf.Loop 32 :=
  let c0_i32_1 : BitVec 32 := 0#32
  let c16_i32 : BitVec 32 := 16#32
  let v3 : BitVec 32 := Scalar.addi c0_i32_1 c16_i32
  let c1_i32 : BitVec 32 := 1#32
  ⟨c0_i32_1, v3, c1_i32⟩
def k0_mult2 (k0_t2 : Fin k0_t2_loop.trips) : BitVec 32 :=
  let c0_i32_1 : BitVec 32 := 0#32
  let c1_i32 : BitVec 32 := 1#32
  let arg14 : BitVec 32 := Scf.iv c0_i32_1 c1_i32 k0_t2
  let c32_i32 : BitVec 32 := 32#32
  let v484 : BitVec 32 := Scalar.muli arg14 c32_i32
  v484
def k0_off65 (k0_t2 : Fin k0_t2_loop.trips) : Fin 2 → Nat :=
  let c0_i32_1 : BitVec 32 := 0#32
  let c1_i32 : BitVec 32 := 1#32
  let arg14 : BitVec 32 := Scf.iv c0_i32_1 c1_i32 k0_t2
  let c32_i32 : BitVec 32 := 32#32
  let v484 : BitVec 32 := Scalar.muli arg14 c32_i32
  let v485 : BitVec 32 := v484
  let v486 : Index := Scalar.indexCast v485
  let c0_211 : Index := 0#32
  ![v486.toNat, 0]
def k0_off66 (k0_t2 : Fin k0_t2_loop.trips) : Fin 2 → Nat :=
  let c0_i32_1 : BitVec 32 := 0#32
  let c1_i32 : BitVec 32 := 1#32
  let arg14 : BitVec 32 := Scf.iv c0_i32_1 c1_i32 k0_t2
  let c32_i32 : BitVec 32 := 32#32
  let v484 : BitVec 32 := Scalar.muli arg14 c32_i32
  let v485 : BitVec 32 := v484
  let v491 : Index := Scalar.indexCast v485
  let c128 : Index := 128#32
  ![v491.toNat, 128]
def k0_off67 (k0_t2 : Fin k0_t2_loop.trips) : Fin 2 → Nat :=
  let c0_i32_1 : BitVec 32 := 0#32
  let c1_i32 : BitVec 32 := 1#32
  let arg14 : BitVec 32 := Scf.iv c0_i32_1 c1_i32 k0_t2
  let c32_i32 : BitVec 32 := 32#32
  let v484 : BitVec 32 := Scalar.muli arg14 c32_i32
  let v485 : BitVec 32 := v484
  let v497 : Index := Scalar.indexCast v485
  let c256_212 : Index := 256#32
  ![v497.toNat, 256]
def k0_off68 (k0_t2 : Fin k0_t2_loop.trips) : Fin 2 → Nat :=
  let c0_i32_1 : BitVec 32 := 0#32
  let c1_i32 : BitVec 32 := 1#32
  let arg14 : BitVec 32 := Scf.iv c0_i32_1 c1_i32 k0_t2
  let c32_i32 : BitVec 32 := 32#32
  let v484 : BitVec 32 := Scalar.muli arg14 c32_i32
  let v485 : BitVec 32 := v484
  let v503 : Index := Scalar.indexCast v485
  let c384 : Index := 384#32
  ![v503.toNat, 384]
def k0_off69 (k0_t2 : Fin k0_t2_loop.trips) : Fin 2 → Nat :=
  let c0_i32_1 : BitVec 32 := 0#32
  let c1_i32 : BitVec 32 := 1#32
  let arg14 : BitVec 32 := Scf.iv c0_i32_1 c1_i32 k0_t2
  let c32_i32 : BitVec 32 := 32#32
  let v484 : BitVec 32 := Scalar.muli arg14 c32_i32
  let v485 : BitVec 32 := v484
  let v509 : Index := Scalar.indexCast v485
  let c512_213 : Index := 512#32
  ![v509.toNat, 512]
def k0_off70 (k0_t2 : Fin k0_t2_loop.trips) : Fin 2 → Nat :=
  let c0_i32_1 : BitVec 32 := 0#32
  let c1_i32 : BitVec 32 := 1#32
  let arg14 : BitVec 32 := Scf.iv c0_i32_1 c1_i32 k0_t2
  let c32_i32 : BitVec 32 := 32#32
  let v484 : BitVec 32 := Scalar.muli arg14 c32_i32
  let v485 : BitVec 32 := v484
  let v515 : Index := Scalar.indexCast v485
  let c640 : Index := 640#32
  ![v515.toNat, 640]
def k0_off71 (k0_t2 : Fin k0_t2_loop.trips) : Fin 2 → Nat :=
  let c0_i32_1 : BitVec 32 := 0#32
  let c1_i32 : BitVec 32 := 1#32
  let arg14 : BitVec 32 := Scf.iv c0_i32_1 c1_i32 k0_t2
  let c32_i32 : BitVec 32 := 32#32
  let v484 : BitVec 32 := Scalar.muli arg14 c32_i32
  let v485 : BitVec 32 := v484
  let v521 : Index := Scalar.indexCast v485
  let c768_214 : Index := 768#32
  ![v521.toNat, 768]
def k0_off72 (k0_t2 : Fin k0_t2_loop.trips) : Fin 2 → Nat :=
  let c0_i32_1 : BitVec 32 := 0#32
  let c1_i32 : BitVec 32 := 1#32
  let arg14 : BitVec 32 := Scf.iv c0_i32_1 c1_i32 k0_t2
  let c32_i32 : BitVec 32 := 32#32
  let v484 : BitVec 32 := Scalar.muli arg14 c32_i32
  let v485 : BitVec 32 := v484
  let v527 : Index := Scalar.indexCast v485
  let c896 : Index := 896#32
  ![v527.toNat, 896]
def k0_off73 (k0_t2 : Fin k0_t2_loop.trips) : Fin 2 → Nat :=
  let c0_i32_1 : BitVec 32 := 0#32
  let c1_i32 : BitVec 32 := 1#32
  let arg14 : BitVec 32 := Scf.iv c0_i32_1 c1_i32 k0_t2
  let c32_i32 : BitVec 32 := 32#32
  let v484 : BitVec 32 := Scalar.muli arg14 c32_i32
  let v485 : BitVec 32 := v484
  let v533 : Index := Scalar.indexCast v485
  let c1024_215 : Index := 1024#32
  ![v533.toNat, 1024]
def k0_off74 (k0_t2 : Fin k0_t2_loop.trips) : Fin 2 → Nat :=
  let c0_i32_1 : BitVec 32 := 0#32
  let c1_i32 : BitVec 32 := 1#32
  let arg14 : BitVec 32 := Scf.iv c0_i32_1 c1_i32 k0_t2
  let c32_i32 : BitVec 32 := 32#32
  let v484 : BitVec 32 := Scalar.muli arg14 c32_i32
  let v485 : BitVec 32 := v484
  let v539 : Index := Scalar.indexCast v485
  let c1152 : Index := 1152#32
  ![v539.toNat, 1152]
def k0_off75 (k0_t2 : Fin k0_t2_loop.trips) : Fin 2 → Nat :=
  let c0_i32_1 : BitVec 32 := 0#32
  let c1_i32 : BitVec 32 := 1#32
  let arg14 : BitVec 32 := Scf.iv c0_i32_1 c1_i32 k0_t2
  let c32_i32 : BitVec 32 := 32#32
  let v484 : BitVec 32 := Scalar.muli arg14 c32_i32
  let v485 : BitVec 32 := v484
  let v545 : Index := Scalar.indexCast v485
  let c1280_216 : Index := 1280#32
  ![v545.toNat, 1280]
def k0_off76 (k0_t2 : Fin k0_t2_loop.trips) : Fin 2 → Nat :=
  let c0_i32_1 : BitVec 32 := 0#32
  let c1_i32 : BitVec 32 := 1#32
  let arg14 : BitVec 32 := Scf.iv c0_i32_1 c1_i32 k0_t2
  let c32_i32 : BitVec 32 := 32#32
  let v484 : BitVec 32 := Scalar.muli arg14 c32_i32
  let v485 : BitVec 32 := v484
  let v551 : Index := Scalar.indexCast v485
  let c1408 : Index := 1408#32
  ![v551.toNat, 1408]
def k0_off77 (k0_t2 : Fin k0_t2_loop.trips) : Fin 2 → Nat :=
  let c0_i32_1 : BitVec 32 := 0#32
  let c1_i32 : BitVec 32 := 1#32
  let arg14 : BitVec 32 := Scf.iv c0_i32_1 c1_i32 k0_t2
  let c32_i32 : BitVec 32 := 32#32
  let v484 : BitVec 32 := Scalar.muli arg14 c32_i32
  let v485 : BitVec 32 := v484
  let v557 : Index := Scalar.indexCast v485
  let c1536_217 : Index := 1536#32
  ![v557.toNat, 1536]
def k0_off78 (k0_t2 : Fin k0_t2_loop.trips) : Fin 2 → Nat :=
  let c0_i32_1 : BitVec 32 := 0#32
  let c1_i32 : BitVec 32 := 1#32
  let arg14 : BitVec 32 := Scf.iv c0_i32_1 c1_i32 k0_t2
  let c32_i32 : BitVec 32 := 32#32
  let v484 : BitVec 32 := Scalar.muli arg14 c32_i32
  let v485 : BitVec 32 := v484
  let v563 : Index := Scalar.indexCast v485
  let c1664 : Index := 1664#32
  ![v563.toNat, 1664]
def k0_off79 (k0_t2 : Fin k0_t2_loop.trips) : Fin 2 → Nat :=
  let c0_i32_1 : BitVec 32 := 0#32
  let c1_i32 : BitVec 32 := 1#32
  let arg14 : BitVec 32 := Scf.iv c0_i32_1 c1_i32 k0_t2
  let c32_i32 : BitVec 32 := 32#32
  let v484 : BitVec 32 := Scalar.muli arg14 c32_i32
  let v485 : BitVec 32 := v484
  let v569 : Index := Scalar.indexCast v485
  let c1792_218 : Index := 1792#32
  ![v569.toNat, 1792]
def k0_off80 (k0_t2 : Fin k0_t2_loop.trips) : Fin 2 → Nat :=
  let c0_i32_1 : BitVec 32 := 0#32
  let c1_i32 : BitVec 32 := 1#32
  let arg14 : BitVec 32 := Scf.iv c0_i32_1 c1_i32 k0_t2
  let c32_i32 : BitVec 32 := 32#32
  let v484 : BitVec 32 := Scalar.muli arg14 c32_i32
  let v485 : BitVec 32 := v484
  let v575 : Index := Scalar.indexCast v485
  let c1920 : Index := 1920#32
  ![v575.toNat, 1920]
def k0_off81 (k0_t2 : Fin k0_t2_loop.trips) : Fin 2 → Nat :=
  let c0_i32_1 : BitVec 32 := 0#32
  let c1_i32 : BitVec 32 := 1#32
  let arg14 : BitVec 32 := Scf.iv c0_i32_1 c1_i32 k0_t2
  let c32_i32 : BitVec 32 := 32#32
  let v484 : BitVec 32 := Scalar.muli arg14 c32_i32
  let v485 : BitVec 32 := v484
  let v1639 : Index := Scalar.indexCast v485
  let c0_543 : Index := 0#32
  ![v1639.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S16x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x16x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x8x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x8x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x16 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelIdeal.lean ====
variable {F : FTy → Type} [FloatOps F]
-- ==== ReferenceIdeal.lean ====
abbrev S24x1536x2048 : Shape := ⟨3, ![24, 1536, 2048]⟩
abbrev S2048 : Shape := ⟨1, ![2048]⟩
abbrev S2048x4096 : Shape := ⟨2, ![2048, 4096]⟩
abbrev S16x32 : Shape := ⟨2, ![16, 32]⟩
abbrev S128 : Shape := ⟨1, ![128]⟩
abbrev S36864x2048 : Shape := ⟨2, ![36864, 2048]⟩
abbrev S1x2048 : Shape := ⟨2, ![1, 2048]⟩
abbrev S1x1x128 : Shape := ⟨3, ![1, 1, 128]⟩
abbrev S36864x16x128 : Shape := ⟨3, ![36864, 16, 128]⟩
abbrev S36864x8x128 : Shape := ⟨3, ![36864, 8, 128]⟩
abbrev S36864x16 : Shape := ⟨2, ![36864, 16]⟩
abbrev S36864 : Shape := ⟨1, ![36864]⟩
abbrev S36864x1 : Shape := ⟨2, ![36864, 1]⟩
abbrev S36864x16x253 : Shape := ⟨3, ![36864, 16, 253]⟩
abbrev S36864x16x1 : Shape := ⟨3, ![36864, 16, 1]⟩
abbrev S16x128x32x128 : Shape := ⟨4, ![16, 128, 32, 128]⟩
abbrev S16x1x32x1 : Shape := ⟨4, ![16, 1, 32, 1]⟩
abbrev S2048x2048 : Shape := ⟨2, ![2048, 2048]⟩
abbrev S2048x1024 : Shape := ⟨2, ![2048, 1024]⟩
abbrev S36864x1024 : Shape := ⟨2, ![36864, 1024]⟩
abbrev S36864x8 : Shape := ⟨2, ![36864, 8]⟩
abbrev S36864x8x1 : Shape := ⟨3, ![36864, 8, 1]⟩

abbrev nBuf : Space → Nat
  | .hbm => 15
  | .vmem => 11
  | .smem => 0
  | _ => 0

abbrev bufTy : (tb : Table) → Fin (tcTables nBuf tb) → BufTy
  | .hbm, ⟨0, _⟩ => ⟨S24x1536x2048, .bf16⟩
  | .hbm, ⟨1, _⟩ => ⟨S2048, .f32⟩
  | .hbm, ⟨2, _⟩ => ⟨S2048x4096, .fp8e4m3⟩
  | .hbm, ⟨3, _⟩ => ⟨S16x32, .f32⟩
  | .hbm, ⟨4, _⟩ => ⟨S128, .f32⟩
  | .hbm, ⟨5, _⟩ => ⟨S128, .f32⟩
  | .hbm, ⟨6, _⟩ => ⟨S36864x2048, .bf16⟩
  | .hbm, ⟨7, _⟩ => ⟨S1x2048, .f32⟩
  | .hbm, ⟨8, _⟩ => ⟨S1x1x128, .f32⟩
  | .hbm, ⟨9, _⟩ => ⟨S1x1x128, .f32⟩
  | .hbm, ⟨10, _⟩ => ⟨S36864x16x128, .bf16⟩
  | .hbm, ⟨11, _⟩ => ⟨S36864x8x128, .bf16⟩
  | .hbm, ⟨12, _⟩ => ⟨S36864x8x128, .bf16⟩
  | .hbm, ⟨13, _⟩ => ⟨S36864x2048, .fp8e4m3⟩
  | .hbm, ⟨14, _⟩ => ⟨S36864x16, .f32⟩
  | .local _ .vmem, ⟨0, _⟩ => ⟨S36864x2048, .bf16⟩
  | .local _ .vmem, ⟨1, _⟩ => ⟨S1x2048, .f32⟩
  | .local _ .vmem, ⟨2, _⟩ => ⟨S2048x4096, .fp8e4m3⟩
  | .local _ .vmem, ⟨3, _⟩ => ⟨S16x32, .f32⟩
  | .local _ .vmem, ⟨4, _⟩ => ⟨S1x1x128, .f32⟩
  | .local _ .vmem, ⟨5, _⟩ => ⟨S1x1x128, .f32⟩
  | .local _ .vmem, ⟨6, _⟩ => ⟨S36864x16x128, .bf16⟩
  | .local _ .vmem, ⟨7, _⟩ => ⟨S36864x8x128, .bf16⟩
  | .local _ .vmem, ⟨8, _⟩ => ⟨S36864x8x128, .bf16⟩
  | .local _ .vmem, ⟨9, _⟩ => ⟨S36864x2048, .fp8e4m3⟩
  | .local _ .vmem, ⟨10, _⟩ => ⟨S36864x16, .f32⟩
  | _, _ => ⟨S24x1536x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S36864x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S36864x16x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S36864x8x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S36864x8x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S36864x2048 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S36864x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Exponent.lean ====
module

public import Idealize.ShloMosaic.Lib.Pointwise

@[expose] public section

noncomputable section

namespace Cert.Qkv

open Idealize.ShloMosaic

/-- The value of the f32 pattern whose exponent field is `k` and whose other bits are clear. -/
@[irreducible] def thr (k : ℕ) : EReal := Ideal.ofBits .f32 (BitVec.ofNat 32 (k * 8388608))

/-- The number of thresholds `thr 0 … thr 255` that `t` reaches, as the kernel counts them: lane by lane, two thresholds a
    lane, each adding one when it is not above `t`. -/
def reached (t : EReal) : EReal :=
  ∑ x : Fin 128,
    ((if t < Ideal.ofBits .f32 (IntOp.shli ArithUnit.vector (BitVec.ofNat 32 x) 23#32) then (0 : EReal) else 1) +
      if t < Ideal.ofBits .f32 (IntOp.shli ArithUnit.vector (IntOp.addi (BitVec.ofNat 32 x) 128#32) 23#32) then (0 : EReal) else 1)

/-- The word the kernel takes for the scale's bits, from the count of thresholds reached. -/
def scaleBits (n : BitVec 32) : BitVec 32 :=
  Scalar.select (IntOp.cmpi CmpIPredicate.eq (IntOp.shli ArithUnit.vector (IntOp.subi n 1#32) 23#32) 0#32) (1065353216#32)
    (IntOp.addi (IntOp.shli ArithUnit.vector (IntOp.subi n 1#32) 23#32) 8388608#32)

/-- The reference's scale of a block whose largest magnitude over 448 is `t`: the least of the powers `2^(-125) … 2^127` above
    `t`, and 1 for a `t` below the least normal number. -/
def scaleOf (t : EReal) : EReal :=
  if t < Ideal.ofBits .f32 8388608#32 then 1
  else Finset.univ.fold min (Ideal.ofBits .f32 2139095040#32)
    (fun x : Fin 253 =>
      if t < Ideal.exp2 (FloatOps.sitofp (F := Ideal) .f32 (BitVec.ofNat 32 x) - Ideal.ofBits .f32 1123680256#32) then
        Ideal.exp2 (FloatOps.sitofp (F := Ideal) .f32 (BitVec.ofNat 32 x) - Ideal.ofBits .f32 1123680256#32)
      else Ideal.ofBits .f32 2139095040#32)

/-- The lowest threshold is zero. -/
theorem thr_zero : thr 0 = 0 := by
  simp [thr, Ideal.ofBits, Ideal.ieee]

/-- The highest threshold is infinity. -/
theorem thr_top : thr 255 = ⊤ := by
  simp [thr, Ideal.ofBits, Ideal.ieee]

/-- The exponent, fraction and sign fields of `k * 2^23`. -/
private theorem field (k : ℕ) (h : k < 256) :
    ((BitVec.ofNat 32 (k * 8388608)).extractLsb' 23 8).toNat = k ∧ ((BitVec.ofNat 32 (k * 8388608)).extractLsb' 0 23).toNat = 0 ∧
      ((BitVec.ofNat 32 (k * 8388608)).extractLsb' 31 1 == 1#1) = false := by
  have : ∀ k : Fin 256, ((BitVec.ofNat 32 (k * 8388608)).extractLsb' 23 8).toNat = k ∧
      ((BitVec.ofNat 32 (k * 8388608)).extractLsb' 0 23).toNat = 0 ∧ ((BitVec.ofNat 32 (k * 8388608)).extractLsb' 31 1 == 1#1) = false := by
    decide +kernel
  exact this ⟨k, h⟩

/-- A normal threshold is the power of two its exponent field names. -/
theorem thr_pow (k : ℕ) (h0 : 1 ≤ k) (h1 : k ≤ 254) : thr k = (((2 : ℝ) ^ ((k : ℤ) - 127) : ℝ) : EReal) := by
  obtain ⟨ha, hb, hc⟩ := field k (by omega)
  unfold thr
  show Ideal.ieee 8 23 _ = _
  unfold Ideal.ieee
  simp only [show (8 + 23) = 31 from rfl, ha, hb, hc]
  rw [if_neg (by omega), if_neg (by omega)]
  congr 1
  simp only [Bool.false_eq_true, if_false, one_mul, Nat.add_zero]
  rw [show ((2 ^ 23 : ℕ) : ℝ) = (2 : ℝ) ^ (23 : ℤ) by norm_num, ← zpow_add₀ (by norm_num)]
  congr 1
  norm_num

/-- A threshold as the float of its bits. -/
theorem ofBits_eq_thr (k : ℕ) : Ideal.ofBits .f32 (BitVec.ofNat 32 (k * 8388608)) = thr k := by
  unfold thr; rfl

/-- The words of the lower 128 thresholds. -/
private theorem low_word : ∀ x : Fin 128, IntOp.shli ArithUnit.vector (BitVec.ofNat 32 x) 23#32 = BitVec.ofNat 32 ((x : ℕ) * 8388608) := by
  decide +kernel

/-- The words of the upper 128 thresholds. -/
private theorem high_word :
    ∀ x : Fin 128, IntOp.shli ArithUnit.vector (IntOp.addi (BitVec.ofNat 32 x) 128#32) 23#32 = BitVec.ofNat 32 (((x : ℕ) + 128) * 8388608) := by
  decide +kernel

/-- Lane `x` of the lower thresholds. -/
theorem low_eq (x : Fin 128) : Ideal.ofBits .f32 (IntOp.shli ArithUnit.vector (BitVec.ofNat 32 x) 23#32) = thr x := by
  rw [low_word, ofBits_eq_thr]

/-- Lane `x` of the upper thresholds. -/
theorem high_eq (x : Fin 128) :
    Ideal.ofBits .f32 (IntOp.shli ArithUnit.vector (IntOp.addi (BitVec.ofNat 32 x) 128#32) 23#32) = thr (x + 128) := by
  rw [high_word, ofBits_eq_thr]

/-- The thresholds rise strictly up to the last finite one. -/
theorem thr_lt (i j : ℕ) (h : i < j) (hj : j ≤ 255) : thr i < thr j := by
  rcases Nat.eq_or_lt_of_le hj with rfl | hj'
  · rw [thr_top]
    rcases Nat.eq_zero_or_pos i with rfl | hi
    · rw [thr_zero]; exact EReal.zero_lt_top
    · rw [thr_pow i hi (by omega)]; exact EReal.coe_lt_top _
  · rw [thr_pow j (by omega) (by omega)]
    rcases Nat.eq_zero_or_pos i with rfl | hi
    · rw [thr_zero]; exact_mod_cast (by positivity : (0 : ℝ) < (2 : ℝ) ^ ((j : ℤ) - 127))
    · rw [thr_pow i hi (by omega), EReal.coe_lt_coe_iff]
      exact zpow_lt_zpow_right₀ (by norm_num) (by omega)

/-- The number of thresholds up to the `k`th, counted over two rows of 128 lanes. -/
private theorem count_nat : ∀ k : Fin 255,
    (∑ x : Fin 128, ((if (k : ℕ) < (x : ℕ) then 0 else 1) + (if (k : ℕ) < (x : ℕ) + 128 then 0 else 1) : ℕ)) = (k : ℕ) + 1 := by
  decide +kernel

/-- A number between two neighbouring thresholds reaches the ones up to the lower of the two. -/
theorem reached_eq (t : EReal) (k : ℕ) (hk : k ≤ 254) (h0 : thr k ≤ t) (h1 : t < thr (k + 1)) : reached t = ((k + 1 : ℕ) : EReal) := by
  have hlt : ∀ i : ℕ, i < 256 → (t < thr i ↔ k < i) := by
    intro i hi
    constructor
    · intro h
      by_contra hc
      rcases Nat.eq_or_lt_of_le (not_lt.mp hc) with e | e
      · rw [e] at h; exact absurd h (not_lt.mpr h0)
      · exact absurd (h.trans (thr_lt i k e (by omega))) (not_lt.mpr h0)
    · intro h
      rcases Nat.eq_or_lt_of_le (Nat.succ_le_of_lt h) with e | e
      · rw [← e]; exact h1
      · exact h1.trans (thr_lt _ _ e (by omega))
  unfold reached
  have e : ∀ x : Fin 128, ((if t < Ideal.ofBits .f32 (IntOp.shli ArithUnit.vector (BitVec.ofNat 32 x) 23#32) then (0 : EReal) else 1) +
      if t < Ideal.ofBits .f32 (IntOp.shli ArithUnit.vector (IntOp.addi (BitVec.ofNat 32 x) 128#32) 23#32) then (0 : EReal) else 1)
      = (((if k < (x : ℕ) then 0 else 1) + (if k < (x : ℕ) + 128 then 0 else 1) : ℕ) : EReal) := by
    intro x
    rw [low_eq, high_eq]
    simp only [hlt x (by omega), hlt (x + 128) (by omega)]
    push_cast
    rfl
  rw [Finset.sum_congr rfl fun x _ => e x, ← Nat.cast_sum]
  exact congrArg Nat.cast (count_nat ⟨k, by omega⟩)

/-- The count as an integer word. -/
theorem count_eq (k : ℕ) (hk : k ≤ 254) : Ideal.fptosi 32 ((k + 1 : ℕ) : EReal) = BitVec.ofNat 32 (k + 1) := by
  rw [← EReal.coe_natCast]
  unfold Ideal.fptosi
  rw [Ideal.toIntClamped_coe, if_pos (by positivity), Int.floor_natCast]
  rw [show max (-(2 ^ (32 - 1) : ℕ) : ℤ) (min ((2 ^ (32 - 1) : ℕ) - 1 : ℤ) ((k + 1 : ℕ) : ℤ)) = ((k + 1 : ℕ) : ℤ) by norm_num; omega]
  rfl

/-- The bits of the scale and of its inverse for a count. -/
theorem scaleBits_eq (k : ℕ) (h0 : 1 ≤ k) (hk : k ≤ 253) :
    scaleBits (BitVec.ofNat 32 (k + 1)) = BitVec.ofNat 32 ((k + 1) * 8388608) ∧
      IntOp.subi 2130706432#32 (scaleBits (BitVec.ofNat 32 (k + 1))) = BitVec.ofNat 32 ((253 - k) * 8388608) := by
  have : ∀ k : Fin 254, 1 ≤ (k : ℕ) → scaleBits (BitVec.ofNat 32 (k + 1)) = BitVec.ofNat 32 ((k + 1) * 8388608) ∧
      IntOp.subi 2130706432#32 (scaleBits (BitVec.ofNat 32 (k + 1))) = BitVec.ofNat 32 ((253 - k) * 8388608) := by
    decide +kernel
  exact this ⟨k, by omega⟩ h0

/-- The reference's `x`th power of two. -/
theorem power_eq (x : Fin 253) :
    Ideal.exp2 (FloatOps.sitofp (F := Ideal) .f32 (BitVec.ofNat 32 x) - Ideal.ofBits .f32 1123680256#32)
      = (((2 : ℝ) ^ ((x : ℤ) - 125) : ℝ) : EReal) := by
  have hb : Ideal.ofBits .f32 1123680256#32 = ((125 : ℝ) : EReal) := by
    simp [Ideal.ofBits, Ideal.ieee, -EReal.coe_mul]; norm_num
  have hs : FloatOps.sitofp (F := Ideal) .f32 (BitVec.ofNat 32 (x : ℕ)) = (((x : ℕ) : ℝ) : EReal) := by
    have : (BitVec.ofNat 32 (x : ℕ)).toInt = ((x : ℕ) : ℤ) := by revert x; decide +kernel
    show (((BitVec.ofNat 32 (x : ℕ)).toInt : ℝ) : EReal) = _
    rw [this]; norm_num
  rw [hb, hs, ← EReal.coe_sub]
  show ((Real.rpow 2 _ : ℝ) : EReal) = _
  congr 1
  rw [← Real.rpow_intCast]
  show (2 : ℝ) ^ (_ : ℝ) = _
  push_cast; rfl

/-- The least normal number is threshold one. -/
theorem least_normal : Ideal.ofBits .f32 8388608#32 = thr 1 := by
  unfold thr; rfl

/-- The bits of infinity. -/
theorem infinity : Ideal.ofBits .f32 2139095040#32 = ⊤ := by
  simp [Ideal.ofBits, Ideal.ieee]

/-- Between two neighbouring thresholds the reference's scale is the upper one. -/
theorem scaleOf_eq (t : EReal) (k : ℕ) (h0 : 1 ≤ k) (hk : k ≤ 252) (h : thr k ≤ t) (h' : t < thr (k + 1)) : scaleOf t = thr (k + 1) := by
  unfold scaleOf
  rw [least_normal, if_neg, infinity]
  swap
  · rcases Nat.eq_or_lt_of_le h0 with e | e
    · rw [e]; exact not_lt.mpr h
    · exact not_lt.mpr ((thr_lt 1 k e (by omega)).le.trans h)
  simp only [power_eq]
  have hp : ∀ x : Fin 253, (((2 : ℝ) ^ ((x : ℤ) - 125) : ℝ) : EReal) = thr (x + 2) := by
    intro x
    rw [thr_pow _ (by omega) (by omega)]
    congr 2
    push_cast; ring
  simp only [hp]
  apply le_antisymm
  · refine (Finset.fold_min_le _).mpr (.inr ⟨⟨k - 1, by omega⟩, Finset.mem_univ _, ?_⟩)
    simp only [show k - 1 + 2 = k + 1 by omega, if_pos h']; exact le_rfl
  · refine (Finset.le_fold_min _).mpr ⟨le_top, fun x _ => ?_⟩
    split
    · rename_i hx
      rcases lt_trichotomy ((x : ℕ) + 2) (k + 1) with e | e | e
      · exfalso
        have : (x : ℕ) + 2 ≤ k := by omega
        rcases Nat.eq_or_lt_of_le this with e' | e'
        · rw [e'] at hx; exact absurd hx (not_lt.mpr h)
        · exact absurd (hx.trans (thr_lt _ _ e' (by omega))) (not_lt.mpr h)
      · rw [e]
      · exact (thr_lt _ _ e (by omega)).le
    · exact le_top

/-- Every `0 ≤ t < 2^126` lies between two neighbouring thresholds. -/
theorem exists_thr (t : EReal) (h0 : 0 ≤ t) (h1 : t < (((2 : ℝ) ^ (126 : ℤ) : ℝ) : EReal)) :
    ∃ k : ℕ, k ≤ 252 ∧ thr k ≤ t ∧ t < thr (k + 1) := by
  have h253 : t < thr 253 := by rw [thr_pow 253 (by norm_num) (by norm_num)]; norm_num at h1 ⊢; exact h1
  classical
  have hex : ∃ n, t < thr n := ⟨253, h253⟩
  have hm := Nat.find_spec hex
  have hle : Nat.find hex ≤ 253 := Nat.find_min' hex h253
  have hpos : Nat.find hex ≠ 0 := by
    intro e; rw [e, thr_zero] at hm; exact absurd hm (not_lt.mpr h0)
  refine ⟨Nat.find hex - 1, by omega, not_lt.mp (Nat.find_min hex (by omega)), ?_⟩
  rwa [show Nat.find hex - 1 + 1 = Nat.find hex by omega]

/-- THE EXPONENT TRICK: for `0 ≤ t < 2^126` the scale whose bits the kernel builds from the count of thresholds reached is the
    reference's scale, and the multiplier it builds by subtracting those bits is the reference's reciprocal of the scale. -/
theorem scale_of_count (t : EReal) (h0 : 0 ≤ t) (h1 : t < (((2 : ℝ) ^ (126 : ℤ) : ℝ) : EReal)) :
    Ideal.ofBits .f32 (scaleBits (Ideal.fptosi 32 (reached t))) = scaleOf t ∧
      Ideal.ofBits .f32 (IntOp.subi 2130706432#32 (scaleBits (Ideal.fptosi 32 (reached t)))) = Ideal.div 1 (scaleOf t) := by
  obtain ⟨k, hk, ha, hb⟩ := exists_thr t h0 h1
  rw [reached_eq t k (by omega) ha hb, count_eq k (by omega)]
  rcases Nat.eq_zero_or_pos k with rfl | hpos
  · have hs : scaleOf t = 1 := by unfold scaleOf; rw [least_normal, if_pos hb]
    rw [hs, show scaleBits (BitVec.ofNat 32 (0 + 1)) = 1065353216#32 by decide, show IntOp.subi 2130706432#32 1065353216#32 = 1065353216#32 by decide,
      Ideal.ofBits_one_f32]
    refine ⟨rfl, ?_⟩
    rw [show (1 : EReal) = ((1 : ℝ) : EReal) from rfl, Ideal.div_coe one_ne_zero]; norm_num
  · obtain ⟨e1, e2⟩ := scaleBits_eq k hpos (by omega)
    rw [scaleOf_eq t k hpos hk ha hb, e2, e1]
    refine ⟨ofBits_eq_thr _, ?_⟩
    rw [ofBits_eq_thr, thr_pow (k + 1) (by omega) (by omega), thr_pow (253 - k) (by omega) (by omega), Ideal.div_coe (by positivity), one_mul, one_div, ← zpow_neg]
    refine congrArg (fun z : ℤ => (((2 : ℝ) ^ z : ℝ) : EReal)) ?_
    omega

end Cert.Qkv

end

end
-- ==== Proof.Spec.lean ====
module

public import proofs.«01_k».proof.Proof.Exponent

@[expose] public section

noncomputable section

namespace Cert.Qkv

open Idealize.ShloMosaic

/-! The function both programs compute, one row of `x` at a time, over the extended reals. -/

/-- Coordinate `l` of group `g`. -/
abbrev gl (g : Fin 16) (l : Fin 128) : Fin 2048 := ⟨g * 128 + l, by omega⟩

/-- The group of coordinate `d`. -/
abbrev grp (d : Fin 2048) : Fin 16 := ⟨d / 128, by omega⟩

/-- The group of column `n`. -/
abbrev colGrp (n : Fin 4096) : Fin 32 := ⟨n / 128, by omega⟩

/-- One over the root mean square of a row. -/
def rms (x : Fin 2048 → EReal) : EReal :=
  Ideal.rsqrt (Ideal.div (∑ d, x d * x d) (Ideal.ofBits .f32 1157627904#32) + Ideal.ofBits .f32 897988541#32)

/-- The normalised row. -/
def hRow (x w : Fin 2048 → EReal) (d : Fin 2048) : EReal := x d * rms x * w d

/-- The largest magnitude of 128 numbers, times 1/448. -/
def peak (h : Fin 128 → EReal) : EReal :=
  Finset.univ.fold max (Ideal.ofBits .f32 4286578688#32) (fun l => FloatOps.absf (F := Ideal) (φ := .f32) (h l)) * Ideal.ofBits .f32 991054117#32

/-- The scale of group `g` of the row. -/
def scaleRow (x w : Fin 2048 → EReal) (g : Fin 16) : EReal := scaleOf (peak fun l => hRow x w (gl g l))

/-- The row's codes. -/
def codeRow (x w : Fin 2048 → EReal) (d : Fin 2048) : EReal :=
  min (Ideal.ofBits .f32 1138753536#32) (max (Ideal.ofBits .f32 3286237184#32) (hRow x w d * Ideal.div 1 (scaleRow x w (grp d))))

/-- The row as the product reads it: code times scale. -/
def hbRow (x w : Fin 2048 → EReal) (d : Fin 2048) : EReal := codeRow x w d * scaleRow x w (grp d)

/-- The weights as the product reads them: code times tile scale. -/
def wbAt (q : Fin 2048 → Fin 4096 → EReal) (s : Fin 16 → Fin 32 → EReal) (d : Fin 2048) (n : Fin 4096) : EReal :=
  q d n * s (grp d) (colGrp n)

/-- Column `n` of the row times the weights. -/
def proj (hb : Fin 2048 → EReal) (wb : Fin 2048 → Fin 4096 → EReal) (n : Fin 4096) : EReal := ∑ d, hb d * wb d n

/-- A head's 128 numbers normalised and weighted. -/
def headNorm (y w : Fin 128 → EReal) (l : Fin 128) : EReal :=
  y l * Ideal.rsqrt (Ideal.div (∑ l, y l * y l) (Ideal.ofBits .f32 1124073472#32) + Ideal.ofBits .f32 897988541#32) * w l

/-! The block's peak is below `2^126` when the norm's weights are finite. -/

/-- The constant `1e-6` is a positive real. -/
private theorem eps_pos : ∃ e : ℝ, 0 < e ∧ Ideal.ofBits .f32 897988541#32 = (e : EReal) := by
  refine ⟨_, ?_, by simp [Ideal.ofBits, Ideal.ieee, -EReal.coe_mul]; rfl⟩
  positivity

/-- The constant `2048`. -/
private theorem bits_2048 : Ideal.ofBits .f32 1157627904#32 = ((2048 : ℝ) : EReal) := by
  simp [Ideal.ofBits, Ideal.ieee, -EReal.coe_mul]; norm_num

/-- The constant `1 / 448` is a positive real of at most `1 / 447`. -/
private theorem bits_448th : ∃ e : ℝ, 0 < e ∧ e ≤ 1 / 447 ∧ Ideal.ofBits .f32 991054117#32 = (e : EReal) := by
  refine ⟨_, ?_, ?_, by simp [Ideal.ofBits, Ideal.ieee, -EReal.coe_mul]; rfl⟩
  · positivity
  · norm_num

/-- The largest finite number is at most `2^128`. -/
private theorem bits_max : Ideal.ofBits .f32 2139095039#32 ≤ (((2 : ℝ) ^ (128 : ℤ) : ℝ) : EReal) := by
  have h : Ideal.ofBits .f32 2139095039#32 = ((340282346638528859811704183484516925440 : ℝ) : EReal) := by
    simp [Ideal.ofBits, Ideal.ieee, -EReal.coe_mul]; norm_num
  rw [h, EReal.coe_le_coe_iff]; norm_num

/-- The bits of minus infinity. -/
private theorem bits_bot : Ideal.ofBits .f32 4286578688#32 = ⊥ := by
  simp [Ideal.ofBits, Ideal.ieee]

/-- A square is nonnegative. -/
private theorem sq_nonneg' (a : EReal) : 0 ≤ a * a := by
  induction a with
  | bot => simp
  | top => simp
  | coe r => rw [← EReal.coe_mul]; exact_mod_cast mul_self_nonneg r

/-- A row with an infinite entry has 0 for one over its root mean square. -/
private theorem rms_of_infinite (x : Fin 2048 → EReal) (d : Fin 2048) (h : x d = ⊤ ∨ x d = ⊥) : rms x = 0 := by
  have hs : (∑ d, x d * x d) = ⊤ := by
    have h1 : x d * x d = ⊤ := by rcases h with h | h <;> rw [h] <;> simp
    exact top_unique (h1 ▸ Finset.single_le_sum (f := fun d => x d * x d) (fun i _ => sq_nonneg' (x i)) (Finset.mem_univ d))
  obtain ⟨e, -, he⟩ := eps_pos
  unfold rms
  rw [hs, bits_2048, he, Ideal.div_coe (by norm_num), EReal.top_mul_coe_of_pos (by norm_num), EReal.top_add_coe, Ideal.rsqrt_top]

/-- The normalised row is real and bounded when the weights are finite. -/
private theorem hRow_bound (x w : Fin 2048 → EReal)
    (hw : ∀ d, max (w d) (-(w d)) ≤ Ideal.ofBits .f32 2139095039#32) (d : Fin 2048) :
    ∃ z : ℝ, |z| ≤ 46 * 2 ^ (128 : ℤ) ∧ hRow x w d = (z : EReal) := by
  have hw' := (hw d).trans bits_max
  obtain ⟨v, hv, hvb⟩ : ∃ v : ℝ, w d = (v : EReal) ∧ |v| ≤ 2 ^ (128 : ℤ) := by
    generalize w d = a at hw'
    induction a with
    | bot => exact absurd (top_unique ((le_max_right _ _).trans hw')) (EReal.coe_ne_top _)
    | top => exact absurd (top_unique ((le_max_left _ _).trans hw')) (EReal.coe_ne_top _)
    | coe r =>
      refine ⟨r, rfl, ?_⟩
      rw [max_le_iff, ← EReal.coe_neg, EReal.coe_le_coe_iff, EReal.coe_le_coe_iff] at hw'
      exact abs_le.mpr ⟨by linarith [hw'.2], hw'.1⟩
  by_cases hx : ∃ i, x i = ⊤ ∨ x i = ⊥
  · obtain ⟨i, hi⟩ := hx
    refine ⟨0, by rw [abs_zero]; positivity, ?_⟩
    unfold hRow
    rw [rms_of_infinite x i hi, mul_zero, zero_mul]; rfl
  · push Not at hx
    have hy : ∀ i, x i = ((x i).toReal : EReal) := fun i => (EReal.coe_toReal (hx i).1 (hx i).2).symm
    generalize hyd : (fun i => (x i).toReal) = y at *
    have hy' : ∀ i, x i = (y i : EReal) := fun i => by rw [hy i, ← hyd]
    obtain ⟨e, he, hee⟩ := eps_pos
    have hS : (∑ i, x i * x i) = ((∑ i, y i * y i : ℝ) : EReal) := by
      simp only [hy', ← EReal.coe_mul]
      induction (Finset.univ : Finset (Fin 2048)) using Finset.induction_on with
      | empty => simp
      | insert a s ha ih => rw [Finset.sum_insert ha, Finset.sum_insert ha, EReal.coe_add, ih]
    generalize hSS : (∑ i, y i * y i : ℝ) = S at hS
    have hle : y d * y d ≤ S := by
      rw [← hSS]; exact Finset.single_le_sum (f := fun d => y d * y d) (fun i _ => mul_self_nonneg (y i)) (Finset.mem_univ d)
    have hS0 : 0 ≤ S := (mul_self_nonneg _).trans hle
    have hpos : 0 < S * (1 / 2048) + e := by positivity
    have hr : rms x = (((Real.sqrt (S * (1 / 2048) + e))⁻¹ : ℝ) : EReal) := by
      unfold rms
      rw [hS, bits_2048, hee, Ideal.div_coe (by norm_num), ← EReal.coe_mul, ← EReal.coe_add, Ideal.rsqrt_coe, if_neg (not_lt.mpr hpos.le), if_neg hpos.ne']
    refine ⟨y d * (Real.sqrt (S * (1 / 2048) + e))⁻¹ * v, ?_, by unfold hRow; rw [hr, hy', hv, ← EReal.coe_mul, ← EReal.coe_mul]⟩
    rw [abs_mul]
    refine mul_le_mul ?_ hvb (abs_nonneg _) (by norm_num)
    apply abs_le_of_sq_le_sq _ (by norm_num)
    rw [mul_pow, inv_pow, Real.sq_sqrt hpos.le, ← div_eq_mul_inv, div_le_iff₀ hpos]
    nlinarith

/-- With finite norm weights every block's peak is nonnegative and below `2^126`. -/
theorem peak_bound (x w : Fin 2048 → EReal) (hw : ∀ d, max (w d) (-(w d)) ≤ Ideal.ofBits .f32 2139095039#32) (g : Fin 16) :
    0 ≤ (peak fun l => hRow x w (gl g l)) ∧ (peak fun l => hRow x w (gl g l)) < (((2 : ℝ) ^ (126 : ℤ) : ℝ) : EReal) := by
  obtain ⟨c, hc0, hc1, hc⟩ := bits_448th
  unfold peak
  rw [bits_bot, hc]
  have hB : ∀ l, FloatOps.absf (F := Ideal) (φ := .f32) (hRow x w (gl g l)) ≤ ((46 * 2 ^ (128 : ℤ) : ℝ) : EReal) ∧
      0 ≤ FloatOps.absf (F := Ideal) (φ := .f32) (hRow x w (gl g l)) := by
    intro l
    obtain ⟨z, hz, e⟩ := hRow_bound x w hw (gl g l)
    rw [e]
    show max ((z : ℝ) : EReal) (-((z : ℝ) : EReal)) ≤ _ ∧ 0 ≤ max ((z : ℝ) : EReal) (-((z : ℝ) : EReal))
    rw [← EReal.coe_neg]
    constructor
    · exact max_le (EReal.coe_le_coe_iff.mpr (abs_le.mp hz).2) (EReal.coe_le_coe_iff.mpr (by linarith [(abs_le.mp hz).1]))
    · rcases le_total 0 z with h | h
      · exact le_max_of_le_left (by exact_mod_cast h)
      · exact le_max_of_le_right (by exact_mod_cast neg_nonneg.mpr h)
  generalize hM : Finset.univ.fold max (⊥ : EReal) (fun l => FloatOps.absf (F := Ideal) (φ := .f32) (hRow x w (gl g l))) = M
  have h0 : 0 ≤ M := by
    rw [← hM]; exact (Finset.le_fold_max _).mpr (.inr ⟨0, Finset.mem_univ _, (hB 0).2⟩)
  have h1 : M ≤ ((46 * 2 ^ (128 : ℤ) : ℝ) : EReal) := by
    rw [← hM]; exact (Finset.fold_max_le _).mpr ⟨bot_le, fun l _ => (hB l).1⟩
  induction M with
  | bot => exact absurd h0 (by simp)
  | top => exact absurd (top_unique h1) (EReal.coe_ne_top _)
  | coe r =>
    rw [← EReal.coe_mul]
    have hr0 : 0 ≤ r := by exact_mod_cast h0
    have hr1 : r ≤ 46 * 2 ^ (128 : ℤ) := EReal.coe_le_coe_iff.mp h1
    refine ⟨by exact_mod_cast mul_nonneg hr0 hc0.le, EReal.coe_lt_coe_iff.mpr ?_⟩
    calc r * c ≤ (46 * 2 ^ (128 : ℤ)) * (1 / 447) := mul_le_mul hr1 hc1 hc0.le (by positivity)
      _ < 2 ^ (126 : ℤ) := by norm_num

end Cert.Qkv

end

end
-- ==== Proof.Chunk.lean ====
module

public import proofs.«01_k».proof.Proof.Spec
public import proofs.«01_k».proof.Proof.Gen.KernelIdeal.Loops
public import Idealize.ShloMosaic.Lib.Pipeline.ValueKit

@[expose] public section

set_option maxRecDepth 16384

noncomputable section

namespace Cert.Qkv

open Idealize.ShloMosaic Cert.KernelIdeal Cert.KernelIdeal.Gen

/-! The pieces a loop's trips store, each a part of one array. -/

/-- Every piece of `L` holds, where it lies, the numbers of the array `G`. -/
def Agree {S : Shape} {e : EltTy} (L : List (View.Piece (Elt Ideal) S e)) (G : S.Idx → Elt Ideal e) : Prop :=
  ∀ p ∈ L, ∀ j, p.2 j = G (p.1.emb j)

/-- No pieces agree with any array. -/
theorem agree_nil {S : Shape} {e : EltTy} (G : S.Idx → Elt Ideal e) : Agree [] G := fun _ h => absurd h List.not_mem_nil

/-- A piece that holds the numbers of `G` put before pieces that do. -/
theorem agree_cons {S : Shape} {e : EltTy} {G : S.Idx → Elt Ideal e} {r : Rect S} {w : r.shape.Idx → Elt Ideal e}
    {L : List (View.Piece (Elt Ideal) S e)} (h : ∀ j, w j = G (r.emb j)) (hL : Agree L G) : Agree (⟨r, w⟩ :: L) G := by
  intro p hp
  rcases List.mem_cons.mp hp with rfl | hp
  · exact h
  · exact hL p hp

/-- Two lists of pieces that hold the numbers of `G`, joined. -/
theorem agree_append {S : Shape} {e : EltTy} {G : S.Idx → Elt Ideal e} {L M : List (View.Piece (Elt Ideal) S e)}
    (h : Agree L G) (h' : Agree M G) : Agree (L ++ M) G := by
  intro p hp
  rcases List.mem_append.mp hp with hp | hp
  · exact h p hp
  · exact h' p hp

/-- Pieces of `G` that leave no index out leave `G`. -/
theorem canon_of_agree {S : Shape} {e : EltTy} {G : S.Idx → Elt Ideal e} {L : List (View.Piece (Elt Ideal) S e)}
    (hc : ∀ y, ∃ p ∈ L, y ∈ p.1.set) (h : Agree L G) : View.canon L = G := by
  funext y
  exact View.canon_eq_of_allAt L y (G y) (hc y) fun p hp j hj => hj ▸ h p hp j

/-- The pieces of `L` hold the numbers of `G`, and among them every index of the rows `a … a + h - 1` whose column is below `c`
    lies in one. -/
def Strip {m n : ℕ} {e : EltTy} (L : List (View.Piece (Elt Ideal) ⟨2, ![m, n]⟩ e)) (G : Shape.Idx ⟨2, ![m, n]⟩ → Elt Ideal e) (a h c : ℕ) : Prop :=
  Agree L G ∧ ∀ y : Shape.Idx ⟨2, ![m, n]⟩, a ≤ (y 0 : ℕ) → (y 0 : ℕ) < a + h → (y 1 : ℕ) < c → ∃ p ∈ L, y ∈ p.1.set

/-- No pieces cover a strip of no columns. -/
theorem strip_nil {m n : ℕ} {e : EltTy} (G : Shape.Idx ⟨2, ![m, n]⟩ → Elt Ideal e) (a h : ℕ) : Strip [] G a h 0 :=
  ⟨agree_nil G, fun _ _ _ hy => absurd hy (Nat.not_lt_zero _)⟩

/-- A piece put next to a strip. -/
theorem strip_cons {m n a h c w : ℕ} {e : EltTy} {L : List (View.Piece (Elt Ideal) ⟨2, ![m, n]⟩ e)} {G : Shape.Idx ⟨2, ![m, n]⟩ → Elt Ideal e}
    {o : Fin 2 → ℕ} (ho : o = ![a, c]) {hin : ∀ i, o i + (![h, w] : Fin 2 → ℕ) i ≤ (![m, n] : Fin 2 → ℕ) i}
    {v : (Rect.unit (s := ⟨2, ![m, n]⟩) o ![h, w] hin).shape.Idx → Elt Ideal e}
    (hv : ∀ j, v j = G ((Rect.unit (s := ⟨2, ![m, n]⟩) o ![h, w] hin).emb j)) (hL : Strip L G a h c) :
    Strip (⟨Rect.unit (s := ⟨2, ![m, n]⟩) o ![h, w] hin, v⟩ :: L) G a h (c + w) := by
  refine ⟨agree_cons hv hL.1, fun y h0 h1 h2 => ?_⟩
  by_cases hc : (y 1 : ℕ) < c
  · obtain ⟨p, hp, hy⟩ := hL.2 y h0 h1 hc
    exact ⟨p, List.mem_cons_of_mem _ hp, hy⟩
  · refine ⟨_, List.mem_cons_self, ?_⟩
    subst ho
    rw [Rect.mem_set_unit]
    intro i
    match i with
    | 0 => exact ⟨h0, h1⟩
    | 1 => exact ⟨by show c ≤ (y 1 : ℕ); omega, h2⟩

/-- A strip below a strip of the same width. -/
theorem strip_append {m n a h c : ℕ} {e : EltTy} {L M : List (View.Piece (Elt Ideal) ⟨2, ![m, n]⟩ e)} {G : Shape.Idx ⟨2, ![m, n]⟩ → Elt Ideal e}
    (hL : Strip L G a h c) (hM : Strip M G 0 a c) : Strip (L ++ M) G 0 (a + h) c := by
  refine ⟨agree_append hL.1 hM.1, fun y _ h1 h2 => ?_⟩
  by_cases hc : (y 0 : ℕ) < a
  · obtain ⟨p, hp, hy⟩ := hM.2 y (Nat.zero_le _) (by omega) h2
    exact ⟨p, List.mem_append_right _ hp, hy⟩
  · obtain ⟨p, hp, hy⟩ := hL.2 y (by omega) (by omega) h2
    exact ⟨p, List.mem_append_left _ hp, hy⟩

/-- A strip over the whole array leaves the array. -/
theorem canon_of_strip {m n : ℕ} {e : EltTy} {L : List (View.Piece (Elt Ideal) ⟨2, ![m, n]⟩ e)} {G : Shape.Idx ⟨2, ![m, n]⟩ → Elt Ideal e}
    (h : Strip L G 0 m n) : View.canon L = G :=
  canon_of_agree (fun y => h.2 y (Nat.zero_le _) (by rw [Nat.zero_add]; exact (y 0).isLt) (y 1).isLt) h.1

/-- The row of a `[512, 2048]` block. -/
abbrev xRow (x : S512x2048.Idx → EReal) (r : Fin 512) : Fin 2048 → EReal := fun d => x (ix2 r d)

/-- The one row of the norm's weights. -/
abbrev wRow (w : S1x2048.Idx → EReal) : Fin 2048 → EReal := fun d => w (ix2 0 d)

/-- The codes of a block of 512 rows. -/
def codesG (x : S512x2048.Idx → EReal) (w : S1x2048.Idx → EReal) : S512x2048.Idx → EReal :=
  fun y => codeRow (xRow x (y 0)) (wRow w) (y 1)

/-- The scales of a block of 512 rows. -/
def scaleG (x : S512x2048.Idx → EReal) (w : S1x2048.Idx → EReal) : S512x16.Idx → EReal :=
  fun y => scaleRow (xRow x (y 0)) (wRow w) (y 1)

/-- The widened rows of a block of 512 rows. -/
def hbG (x : S512x2048.Idx → EReal) (w : S1x2048.Idx → EReal) : S512x2048.Idx → EReal :=
  fun y => hbRow (xRow x (y 0)) (wRow w) (y 1)

/-- A load of a unit-stride box of rank two, at an index. -/
theorem readAt_unit2 {sig : RefSig} {κ : Kind} {sp : Space} {m n p q : ℕ} {e : EltTy} (v : View sig κ sp ⟨2, ![m, n]⟩ e) (o : Fin 2 → ℕ)
    (a b : ℕ) (ho : o = ![a, b]) (h : ∀ i, o i + (![p, q] : Fin 2 → ℕ) i ≤ (![m, n] : Fin 2 → ℕ) i) (X : v.ty.Contents (Elt Ideal)) (r : Fin p) (l : Fin q)
    (hr : a + r < m) (hl : b + l < n) :
    View.readAt (Elt Ideal) v (Rect.unit (s := ⟨2, ![m, n]⟩) o ![p, q] h).toLoadRect X (ix2 r l) = v.read (Elt Ideal) X (ix2 ⟨a + r, hr⟩ ⟨b + l, hl⟩) := by
  subst ho
  show v.read (Elt Ideal) X _ = _
  congr 1
  funext i
  apply Fin.ext
  match i with
  | 0 => show a + 1 * (r : ℕ) = a + r; omega
  | 1 => show b + 1 * (l : ℕ) = b + l; omega

/-- Row `r` of chunk `k`. -/
abbrev cr {k : ℕ} (hk : k < 16) (r : Fin 32) : Fin 512 := ⟨32 * k + r, by omega⟩

section trip
variable {k : ℕ} (hk : k < 16) (x : S512x2048.Idx → EReal) (w : S1x2048.Idx → EReal)

/-- The sum of squares of each row of the chunk, from the row's sixteen groups. -/
def chunkQ (s : Fin 16 → Vec Ideal S32x128 .bf16) : FVec Ideal S32x1 .f32 :=
  k0_pay40 (k0_pay39 (s 0) (s 1) (s 2) (s 3) (s 4) (s 5) (s 6) (s 7)) (s 8) (s 9) (s 10) (s 11) (s 12) (s 13) (s 14) (s 15)

/-- The constant `1 / 2048`. -/
private theorem bits_2048th : Ideal.ofBits .f32 973078528#32 = ((1 / 2048 : ℝ) : EReal) := by
  simp [Ideal.ofBits, Ideal.ieee, -EReal.coe_mul]; norm_num
/-- The constant `2048`. -/
private theorem bits_2048 : Ideal.ofBits .f32 1157627904#32 = ((2048 : ℝ) : EReal) := by
  simp [Ideal.ofBits, Ideal.ieee, -EReal.coe_mul]; norm_num

/-- A sum over a row is a sum over lanes of sums over groups. -/
private theorem sum_groups (f : Fin 2048 → EReal) : ∑ d, f d = ∑ l : Fin 128, ∑ g : Fin 16, f (gl g l) := by
  rw [Finset.sum_comm, ← Finset.sum_product' (f := fun g l => f (gl g l))]
  refine (Fintype.sum_equiv (finProdFinEquiv (m := 16) (n := 128)) _ _ fun p => ?_).symm
  congr 1
  apply Fin.ext
  simp [finProdFinEquiv]; omega

/-- It is the specification's. -/
theorem chunkR_eq (s : Fin 16 → Vec Ideal S32x128 .bf16) (hs : ∀ g r l, s g (ix2 r l) = x (ix2 (cr hk r) (gl g l))) (r : Fin 32) :
    k0_pay42 (chunkQ s) k0_pay41 (ix2 r 0) = rms (xRow x (cr hk r)) := by
  unfold chunkQ
  pointwise [k0_pay39, k0_pay40, k0_pay41, k0_pay42]
  simp only [hs]
  unfold rms
  rw [bits_2048th, bits_2048, Ideal.div_coe (by norm_num), sum_groups]
  simp only [Fin.sum_univ_castSucc (n := 15), Fin.sum_univ_castSucc (n := 14), Fin.sum_univ_castSucc (n := 13), Fin.sum_univ_castSucc (n := 12),
    Fin.sum_univ_castSucc (n := 11), Fin.sum_univ_castSucc (n := 10), Fin.sum_univ_castSucc (n := 9), Fin.sum_univ_castSucc (n := 8),
    Fin.sum_univ_castSucc (n := 7), Fin.sum_univ_castSucc (n := 6), Fin.sum_univ_castSucc (n := 5), Fin.sum_univ_castSucc (n := 4),
    Fin.sum_univ_castSucc (n := 3), Fin.sum_univ_castSucc (n := 2), Fin.sum_univ_castSucc (n := 1), Fin.sum_univ_castSucc (n := 0), Fin.sum_univ_zero, zero_add]
  rw [show (1 / 2048 : ℝ) = (2048 : ℝ)⁻¹ by norm_num]
  rfl

/-- The chunk's normalised rows, one group. -/
theorem chunkH_eq (g : Fin 16) (Q : FVec Ideal S32x1 .f32) (hR : ∀ r, k0_pay42 Q k0_pay41 (ix2 r 0) = rms (xRow x (cr hk r)))
    (s : Vec Ideal S32x128 .bf16) (hs : ∀ r l, s (ix2 r l) = x (ix2 (cr hk r) (gl g l)))
    (ws : Vec Ideal S1x128 .f32) (hws : ∀ l, ws (ix2 0 l) = w (ix2 0 (gl g l))) (r : Fin 32) (l : Fin 128) :
    k0_pay46 Q k0_pay41 s ws (ix2 r l) = hRow (xRow x (cr hk r)) (wRow w) (gl g l) := by
  generalize hv : k0_pay42 Q (k0_pay41 (F := Ideal)) = v at hR
  unfold k0_pay46
  rw [hv]
  pointwise []
  rw [hR, hs, hws]
  rfl

/-- The count of thresholds reached, as the chunk computes it from the normalised rows. -/
def countOf (H : FVec Ideal S32x128 .f32) : IVec S32x1 32 :=
  have v608 : FVec Ideal S32x128 .f32 := absf H
  have v609 : FVec Ideal S32 .f32 := multiReduction .maximumf [1] S32 v608 0xFF800000#32 reduces_S32x128_S32 (.inl rfl) rfl
  have v610 : FVec Ideal S32x1 .f32 := shapeCast S32x1 v609 shapeCasts_S32_S32x1
  have v611 : FVec Ideal S32x1 .f32 := shapeCast S32x1 v610 shapeCasts_S32x1_S32x1
  have v612 : FVec Ideal S32x128 .f32 := broadcastTo S32x128 v611 broadcasts_S32x1_S32x128
  have v613 : FVec Ideal S32x128 .f32 := broadcast S32x128 (Scalar.ofBits .f32 0x3B124925#32)
  have v614 : FVec Ideal S32x128 .f32 := mulf v612 v613
  have v615 : IVec S32x128 1 := cmpf .olt v614 k0_pay43
  have v616 : FVec Ideal S32x128 .f32 := broadcast S32x128 (Scalar.ofBits .f32 0x00000000#32)
  have v617 : FVec Ideal S32x128 .f32 := broadcast S32x128 (Scalar.ofBits .f32 0x3F800000#32)
  have v618 : FVec Ideal S32x128 .f32 := select v615 v616 v617
  have v619 : IVec S32x128 1 := cmpf .olt v614 k0_pay44
  have v622 : FVec Ideal S32x128 .f32 := select v619 v616 v617
  have v623 : FVec Ideal S32x128 .f32 := addf v618 v622
  have v624 : FVec Ideal S32 .f32 := multiReduction .add [1] S32 v623 0x00000000#32 reduces_S32x128_S32 (.inl rfl) rfl
  have v625 : FVec Ideal S32x1 .f32 := shapeCast S32x1 v624 shapeCasts_S32_S32x1
  fptosi 32 v625

/-- The kernel's counts are those of its normalised group. -/
theorem k0_pay47_eq (a b : FVec Ideal S32x1 .f32) (s : Vec Ideal S32x128 .bf16) (ws : Vec Ideal S1x128 .f32) :
    k0_pay47 a b s ws = countOf (k0_pay46 a b s ws) := rfl

/-- The count of a row is that of the thresholds its peak reaches. -/
theorem countOf_eq (H : FVec Ideal S32x128 .f32) (r : Fin 32) :
    countOf H (ix2 r 0) = Ideal.fptosi 32 (reached (peak fun l => H (ix2 r l))) := by
  unfold countOf
  pointwise [k0_pay43, k0_pay44]
  rfl

/-- The scale stored for a count. -/
theorem scaleOf_n (n : IVec S32x1 32) (r : Fin 32) :
    k0_pay50 (F := Ideal) n k0_pay48 (ix2 r 0) = Ideal.ofBits .f32 (scaleBits (n (ix2 r 0))) := by
  pointwise [k0_pay48, k0_pay49, k0_pay50]
  rfl

/-- The code stored for a count: the entry times the inverse scale, clipped. -/
theorem codeOf_n (H : FVec Ideal S32x128 .f32) (n : IVec S32x1 32) (r : Fin 32) (l : Fin 128) :
    k0_pay51 H n k0_pay48 (ix2 r l) = min (Ideal.ofBits .f32 1138753536#32) (max (Ideal.ofBits .f32 3286237184#32)
      (H (ix2 r l) * Ideal.ofBits .f32 (IntOp.subi 2130706432#32 (scaleBits (n (ix2 r 0)))))) := by
  pointwise [k0_pay48, k0_pay49, k0_pay51]
  rfl

/-- The entry the product reads: code times scale. -/
theorem hbOf_n (H : FVec Ideal S32x128 .f32) (n : IVec S32x1 32) (r : Fin 32) (l : Fin 128) :
    k0_pay52 H n k0_pay48 (ix2 r l) = min (Ideal.ofBits .f32 1138753536#32) (max (Ideal.ofBits .f32 3286237184#32)
      (H (ix2 r l) * Ideal.ofBits .f32 (IntOp.subi 2130706432#32 (scaleBits (n (ix2 r 0)))))) * Ideal.ofBits .f32 (scaleBits (n (ix2 r 0))) := by
  pointwise [k0_pay48, k0_pay49, k0_pay50, k0_pay51, k0_pay52]
  rfl

variable (hw : ∀ d, max (wRow w d) (-(wRow w d)) ≤ Ideal.ofBits .f32 2139095039#32)

include hw in
/-- The chunk's scale and its inverse, one group. -/
theorem chunkS_eq (g : Fin 16) (H : FVec Ideal S32x128 .f32) (r : Fin 32)
    (hH : ∀ l, H (ix2 r l) = hRow (xRow x (cr hk r)) (wRow w) (gl g l)) :
    Ideal.ofBits .f32 (scaleBits (countOf H (ix2 r 0))) = scaleRow (xRow x (cr hk r)) (wRow w) g ∧
    Ideal.ofBits .f32 (IntOp.subi 2130706432#32 (scaleBits (countOf H (ix2 r 0)))) = Ideal.div 1 (scaleRow (xRow x (cr hk r)) (wRow w) g) := by
  rw [countOf_eq]
  simp only [hH]
  have hb := peak_bound (xRow x (cr hk r)) (wRow w) hw g
  exact scale_of_count _ hb.1 hb.2

theorem grp_gl (g : Fin 16) (l : Fin 128) : grp (gl g l) = g := by
  apply Fin.ext; show (g * 128 + l : ℕ) / 128 = g; omega

/-- Where a piece of chunk `k`, group `g` puts its entry `(r, l)`. -/
theorem emb_piece {p q m n a b : ℕ} {o : Fin 2 → ℕ} (ho : o = ![a, b]) (h : ∀ i, o i + (![p, q] : Fin 2 → ℕ) i ≤ (![m, n] : Fin 2 → ℕ) i)
    (r : Fin p) (l : Fin q) (hr : a + r < m) (hl : b + l < n) :
    (Rect.unit (s := ⟨2, ![m, n]⟩) o ![p, q] h).emb (ix2 r l) = ix2 ⟨a + r, hr⟩ ⟨b + l, hl⟩ := by
  subst ho
  funext i
  apply Fin.ext
  match i with
  | 0 => show a + 1 * (r : ℕ) = a + r; omega
  | 1 => show b + 1 * (l : ℕ) = b + l; omega

section piece
variable (g : Fin 16) (Q : FVec Ideal S32x1 .f32) (hR : ∀ r, k0_pay42 Q k0_pay41 (ix2 r 0) = rms (xRow x (cr hk r)))
  (s : Vec Ideal S32x128 .bf16) (hs : ∀ r l, s (ix2 r l) = x (ix2 (cr hk r) (gl g l)))
  (ws : Vec Ideal S1x128 .f32) (hws : ∀ l, ws (ix2 0 l) = w (ix2 0 (gl g l)))
  {o : Fin 2 → ℕ} (ho : o = ![32 * k, 128 * g]) (hin : ∀ i, o i + (![32, 128] : Fin 2 → ℕ) i ≤ (![512, 2048] : Fin 2 → ℕ) i)

include hw hR hs hws ho

/-- The codes chunk `k` stores for group `g`. -/
theorem code_piece (j : S32x128.Idx) :
    k0_pay51 (k0_pay46 Q k0_pay41 s ws) (k0_pay47 Q k0_pay41 s ws) k0_pay48 j = codesG x w ((Rect.unit (s := S512x2048) o ![32, 128] hin).emb j) := by
  rw [k0_pay47_eq]
  have hH := chunkH_eq hk x w g Q hR s hs ws hws
  generalize k0_pay46 Q k0_pay41 s ws = H at hH
  obtain ⟨r, l, rfl⟩ : ∃ r l, j = ix2 r l := ⟨j 0, j 1, by funext i; match i with | 0 => rfl | 1 => rfl⟩
  rw [codeOf_n, (chunkS_eq hk x w hw g H r (hH r)).2, hH, emb_piece ho hin r l (by omega) (by omega)]
  have e : (⟨128 * g + l, by omega⟩ : Fin 2048) = gl g l := by apply Fin.ext; show 128 * (g : ℕ) + l = g * 128 + l; omega
  show _ = codeRow (xRow x (cr hk r)) (wRow w) ⟨128 * g + l, _⟩
  rw [e]
  unfold codeRow
  rw [grp_gl]

/-- The widened rows chunk `k` stores for group `g`. -/
theorem hb_piece (j : S32x128.Idx) :
    k0_pay52 (k0_pay46 Q k0_pay41 s ws) (k0_pay47 Q k0_pay41 s ws) k0_pay48 j = hbG x w ((Rect.unit (s := S512x2048) o ![32, 128] hin).emb j) := by
  rw [k0_pay47_eq]
  have hH := chunkH_eq hk x w g Q hR s hs ws hws
  generalize k0_pay46 Q k0_pay41 s ws = H at hH
  obtain ⟨r, l, rfl⟩ : ∃ r l, j = ix2 r l := ⟨j 0, j 1, by funext i; match i with | 0 => rfl | 1 => rfl⟩
  rw [hbOf_n, (chunkS_eq hk x w hw g H r (hH r)).2, (chunkS_eq hk x w hw g H r (hH r)).1, hH, emb_piece ho hin r l (by omega) (by omega)]
  have e : (⟨128 * g + l, by omega⟩ : Fin 2048) = gl g l := by apply Fin.ext; show 128 * (g : ℕ) + l = g * 128 + l; omega
  show _ = hbRow (xRow x (cr hk r)) (wRow w) ⟨128 * g + l, _⟩
  rw [e]
  unfold hbRow codeRow
  rw [grp_gl]

omit ho in
/-- The scales of group `g`. -/
theorem scale_col (r : Fin 32) :
    k0_pay50 (F := Ideal) (k0_pay47 Q k0_pay41 s ws) k0_pay48 (ix2 r 0) = scaleRow (xRow x (cr hk r)) (wRow w) g := by
  rw [k0_pay47_eq, scaleOf_n]
  exact (chunkS_eq hk x w hw g _ r (chunkH_eq hk x w g Q hR s hs ws hws r)).1
end piece

/-- Column `g` of the scales put in its lane. -/
def laneStep (g : BitVec 32) (acc : FVec Ideal S32x128 .f32) (c : FVec Ideal S32x1 .f32) : FVec Ideal S32x128 .f32 :=
  select (cmpi .eq (iota .tc S32x128 32 [1] iota_S32x128_d1_w32) (broadcast S32x128 g)) (broadcastTo S32x128 (shapeCast S32x1 c shapeCasts_S32x1_S32x1) broadcasts_S32x1_S32x128) acc

/-- Writing column `c` to lane `g` leaves the other lanes. -/
theorem laneStep_eq (g : BitVec 32) (acc : FVec Ideal S32x128 .f32) (c : FVec Ideal S32x1 .f32) (r : Fin 32) (l : Fin 128) :
    laneStep g acc c (ix2 r l) = if BitVec.ofNat 32 l = g then c (ix2 r 0) else acc (ix2 r l) := by
  unfold laneStep
  pointwise []
  by_cases h : BitVec.ofNat 32 l = g
  · simp [h, Scalar.select, IntOp.cmpi]
  · simp [h, Scalar.select, IntOp.cmpi, beq_eq_false_iff_ne.mpr h]

/-- The sixteen columns of scales, each in its lane. -/
def lanes (c : Fin 16 → FVec Ideal S32x1 .f32) : FVec Ideal S32x16 .f32 :=
  extractStridedSlice S32x16 ![0, 0]
    (laneStep 15#32 (laneStep 14#32 (laneStep 13#32 (laneStep 12#32 (laneStep 11#32 (laneStep 10#32 (laneStep 9#32 (laneStep 8#32
      (laneStep 7#32 (laneStep 6#32 (laneStep 5#32 (laneStep 4#32 (laneStep 3#32 (laneStep 2#32 (laneStep 1#32 (laneStep 0#32 k0_pay45
        (c 0)) (c 1)) (c 2)) (c 3)) (c 4)) (c 5)) (c 6)) (c 7)) (c 8)) (c 9)) (c 10)) (c 11)) (c 12)) (c 13)) (c 14)) (c 15))
    slices_S32x128_o0_0_S32x16

/-- Lane `g` of the stored scales is the scale of group `g`. -/
theorem lanes_eq (c : Fin 16 → FVec Ideal S32x1 .f32) (r : Fin 32) (g : Fin 16) : lanes c (ix2 r g) = c g (ix2 r 0) := by
  have h : ∀ (y : FVec Ideal S32x128 .f32),
      extractStridedSlice S32x16 ![0, 0] y slices_S32x128_o0_0_S32x16 (ix2 r g) = y (ix2 r ⟨g, by omega⟩) := by
    intro y; pointwise []
  unfold lanes
  rw [h]
  simp only [laneStep_eq]
  fin_cases g <;> simp

/-- The scales chunk `k` stores. -/
theorem scale_piece (c : Fin 16 → FVec Ideal S32x1 .f32)
    (hc : ∀ g r, c g (ix2 r 0) = scaleRow (xRow x (cr hk r)) (wRow w) g) {o : Fin 2 → ℕ} (ho : o = ![32 * k, 0])
    (hin : ∀ i, o i + (![32, 16] : Fin 2 → ℕ) i ≤ (![512, 16] : Fin 2 → ℕ) i) (j : S32x16.Idx) :
    lanes c j = scaleG x w ((Rect.unit (s := S512x16) o ![32, 16] hin).emb j) := by
  obtain ⟨r, g, rfl⟩ : ∃ r g, j = ix2 r g := ⟨j 0, j 1, by funext i; match i with | 0 => rfl | 1 => rfl⟩
  rw [lanes_eq, hc, emb_piece ho hin r g (by omega) (by omega)]
  have e : (⟨0 + g, by omega⟩ : Fin 16) = g := by apply Fin.ext; simp
  show _ = scaleRow (xRow x (cr hk r)) (wRow w) ⟨0 + g, _⟩
  rw [e]

/-- The slab of chunk `k`, group `g`, read from the block. -/
theorem slab_eq {sig : RefSig} {κ : Kind} {sp : Space} (v : View sig κ sp S512x2048 .bf16) (X : v.ty.Contents (Elt Ideal)) (g : Fin 16) {o : Fin 2 → ℕ}
    (ho : o = ![32 * k, 128 * g]) (hin : ∀ i, o i + (![32, 128] : Fin 2 → ℕ) i ≤ (![512, 2048] : Fin 2 → ℕ) i) (r : Fin 32) (l : Fin 128) :
    View.readAt (Elt Ideal) v (Rect.unit (s := S512x2048) o ![32, 128] hin).toLoadRect X (ix2 r l) = v.read (Elt Ideal) X (ix2 (cr hk r) (gl g l)) :=
  (readAt_unit2 v o _ _ ho hin X r l (by omega) (by omega)).trans (by
    have e : (⟨128 * g + l, by omega⟩ : Fin 2048) = gl g l := by apply Fin.ext; show 128 * (g : ℕ) + l = g * 128 + l; omega
    rw [e])

/-- The group's weights, read from the norm's row. -/
theorem wslab_eq {sig : RefSig} {κ : Kind} {sp : Space} (v : View sig κ sp S1x2048 .f32) (X : v.ty.Contents (Elt Ideal)) (g : Fin 16) {o : Fin 2 → ℕ}
    (ho : o = ![0, 128 * (g : ℕ)]) (hin : ∀ i, o i + (![1, 128] : Fin 2 → ℕ) i ≤ (![1, 2048] : Fin 2 → ℕ) i) (l : Fin 128) :
    View.readAt (Elt Ideal) v (Rect.unit (s := S1x2048) o ![1, 128] hin).toLoadRect X (ix2 0 l) = v.read (Elt Ideal) X (ix2 0 (gl g l)) :=
  (readAt_unit2 v o _ _ ho hin X 0 l (by simp) (by omega)).trans (by
    have e : (⟨128 * g + l, by omega⟩ : Fin 2048) = gl g l := by apply Fin.ext; show 128 * (g : ℕ) + l = g * 128 + l; omega
    rw [e]; rfl)
end trip

set_option maxHeartbeats 1000000 in
/-- What one trip of the loop over the chunks stores: codes, scales and widened rows of the specification. -/
theorem trip_agree (𝒱 : Variants) (c : Dev nD) (bd : Option 𝒱.V) (i : grid0.Coords) a1 h1 a2 h2 a3 h3 a4 h4 a5 h5 a6 h6 a7 h7 a8 h8 a9 h9 a10 h10
    a11 h11 a12 h12 a13 h13 (X2 : BufTy.Contents (Elt Ideal) a2.view.ty) (X3 : BufTy.Contents (Elt Ideal) a3.view.ty) (k : Fin k0_t2_loop.trips)
    (hw : ∀ d, max (wRow (a3.view.read (Elt Ideal) X3) d) (-(wRow (a3.view.read (Elt Ideal) X3) d)) ≤ Ideal.ofBits .f32 2139095039#32) :
    Strip (tripL_k0_t2 (F := Ideal) 𝒱 c bd i a1 h1 a2 h2 a3 h3 a4 h4 a5 h5 a6 h6 a7 h7 a8 h8 a9 h9 a10 h10 a11 h11 a12 h12 a13 h13 X2 X3 k).1
      (codesG (a2.view.read (Elt Ideal) X2) (a3.view.read (Elt Ideal) X3)) (32 * k.val) 32 2048 ∧
    Strip (tripL_k0_t2 (F := Ideal) 𝒱 c bd i a1 h1 a2 h2 a3 h3 a4 h4 a5 h5 a6 h6 a7 h7 a8 h8 a9 h9 a10 h10 a11 h11 a12 h12 a13 h13 X2 X3 k).2.1
      (scaleG (a2.view.read (Elt Ideal) X2) (a3.view.read (Elt Ideal) X3)) (32 * k.val) 32 16 ∧
    Strip (tripL_k0_t2 (F := Ideal) 𝒱 c bd i a1 h1 a2 h2 a3 h3 a4 h4 a5 h5 a6 h6 a7 h7 a8 h8 a9 h9 a10 h10 a11 h11 a12 h12 a13 h13 X2 X3 k).2.2
      (hbG (a2.view.read (Elt Ideal) X2) (a3.view.read (Elt Ideal) X3)) (32 * k.val) 32 2048 := by
  have hk : k.val < 16 := k.isLt
  have hin : ∀ {o : Fin 2 → ℕ} (g : Fin 16), o = ![32 * k.val, 128 * (g : ℕ)] → ∀ i, o i + (![32, 128] : Fin 2 → ℕ) i ≤ (![512, 2048] : Fin 2 → ℕ) i := by
    intro o g ho i; subst ho
    match i with
    | 0 => show 32 * k.val + 32 ≤ 512; omega
    | 1 => show 128 * (g : ℕ) + 128 ≤ 2048; omega
  have hin' : ∀ (g : Fin 16), ∀ i, (![0, 128 * (g : ℕ)] : Fin 2 → ℕ) i + (![1, 128] : Fin 2 → ℕ) i ≤ (![1, 2048] : Fin 2 → ℕ) i := by
    intro g i
    match i with
    | 0 => show 0 + 1 ≤ 1; omega
    | 1 => show 128 * (g : ℕ) + 128 ≤ 2048; omega
  unfold tripL_k0_t2 trip_k0_t2
  dsimp only
  simp only [
    trip_k0_t2.sl.r, trip_k0_t2.sl.r_1, trip_k0_t2.sl.r_2, trip_k0_t2.sl.r_3, trip_k0_t2.sl.r_4, trip_k0_t2.sl.r_5, trip_k0_t2.sl.r_6,
    trip_k0_t2.sl.r_7, trip_k0_t2.sl.r_8, trip_k0_t2.sl.r_9, trip_k0_t2.sl.r_10, trip_k0_t2.sl.r_11, trip_k0_t2.sl.r_12, trip_k0_t2.sl.r_13,
    trip_k0_t2.sl.r_14, trip_k0_t2.sl.r_15, trip_k0_t2.sl.r_16, trip_k0_t2.sl.r_17, trip_k0_t2.sl.r_18, trip_k0_t2.sl.r_19,
    trip_k0_t2.sl.r_20, trip_k0_t2.sl.r_21, trip_k0_t2.sl.r_22, trip_k0_t2.sl.r_23, trip_k0_t2.sl.r_24, trip_k0_t2.sl.r_25,
    trip_k0_t2.sl.r_26, trip_k0_t2.sl.r_27, trip_k0_t2.sl.r_28, trip_k0_t2.sl.r_29, trip_k0_t2.sl.r_30, trip_k0_t2.sl.r_31,
    trip_k0_t2.sl.r_32, trip_k0_t2.sl.r_33, trip_k0_t2.sl.r_34, trip_k0_t2.sl.r_35, trip_k0_t2.sl.r_36, trip_k0_t2.sl.r_37,
    trip_k0_t2.sl.r_38, trip_k0_t2.sl.r_39, trip_k0_t2.sl.r_40, trip_k0_t2.sl.r_41, trip_k0_t2.sl.r_42, trip_k0_t2.sl.r_43,
    trip_k0_t2.sl.r_44, trip_k0_t2.sl.r_45, trip_k0_t2.sl.r_46, trip_k0_t2.sl.r_47, trip_k0_t2.sl.r_48, trip_k0_t2.sl.r_49,
    trip_k0_t2.sl.r_50, trip_k0_t2.sl.r_51, trip_k0_t2.sl.r_52, trip_k0_t2.sl.r_53, trip_k0_t2.sl.r_54, trip_k0_t2.sl.r_55,
    trip_k0_t2.sl.r_56, trip_k0_t2.sl.r_57, trip_k0_t2.sl.r_58, trip_k0_t2.sl.r_59, trip_k0_t2.sl.r_60, trip_k0_t2.sl.r_61,
    trip_k0_t2.sl.r_62, trip_k0_t2.sl.r_63, trip_k0_t2.sl.r_64, trip_k0_t2.sl.r_65, trip_k0_t2.sl.v588, trip_k0_t2.sl.cst_480,
    trip_k0_t2.sl.cst_368, trip_k0_t2.sl.cst_369]
  generalize hs0 : View.readAt (Elt Ideal) a2.view (Rect.unit (s := S512x2048) (k0_off65 k) ![32, 128] (hin 0 (k0_off65_eq k))).toLoadRect X2 = s0
  generalize hs1 : View.readAt (Elt Ideal) a2.view (Rect.unit (s := S512x2048) (k0_off66 k) ![32, 128] (hin 1 (k0_off66_eq k))).toLoadRect X2 = s1
  generalize hs2 : View.readAt (Elt Ideal) a2.view (Rect.unit (s := S512x2048) (k0_off67 k) ![32, 128] (hin 2 (k0_off67_eq k))).toLoadRect X2 = s2
  generalize hs3 : View.readAt (Elt Ideal) a2.view (Rect.unit (s := S512x2048) (k0_off68 k) ![32, 128] (hin 3 (k0_off68_eq k))).toLoadRect X2 = s3
  generalize hs4 : View.readAt (Elt Ideal) a2.view (Rect.unit (s := S512x2048) (k0_off69 k) ![32, 128] (hin 4 (k0_off69_eq k))).toLoadRect X2 = s4
  generalize hs5 : View.readAt (Elt Ideal) a2.view (Rect.unit (s := S512x2048) (k0_off70 k) ![32, 128] (hin 5 (k0_off70_eq k))).toLoadRect X2 = s5
  generalize hs6 : View.readAt (Elt Ideal) a2.view (Rect.unit (s := S512x2048) (k0_off71 k) ![32, 128] (hin 6 (k0_off71_eq k))).toLoadRect X2 = s6
  generalize hs7 : View.readAt (Elt Ideal) a2.view (Rect.unit (s := S512x2048) (k0_off72 k) ![32, 128] (hin 7 (k0_off72_eq k))).toLoadRect X2 = s7
  generalize hs8 : View.readAt (Elt Ideal) a2.view (Rect.unit (s := S512x2048) (k0_off73 k) ![32, 128] (hin 8 (k0_off73_eq k))).toLoadRect X2 = s8
  generalize hs9 : View.readAt (Elt Ideal) a2.view (Rect.unit (s := S512x2048) (k0_off74 k) ![32, 128] (hin 9 (k0_off74_eq k))).toLoadRect X2 = s9
  generalize hs10 : View.readAt (Elt Ideal) a2.view (Rect.unit (s := S512x2048) (k0_off75 k) ![32, 128] (hin 10 (k0_off75_eq k))).toLoadRect X2 = s10
  generalize hs11 : View.readAt (Elt Ideal) a2.view (Rect.unit (s := S512x2048) (k0_off76 k) ![32, 128] (hin 11 (k0_off76_eq k))).toLoadRect X2 = s11
  generalize hs12 : View.readAt (Elt Ideal) a2.view (Rect.unit (s := S512x2048) (k0_off77 k) ![32, 128] (hin 12 (k0_off77_eq k))).toLoadRect X2 = s12
  generalize hs13 : View.readAt (Elt Ideal) a2.view (Rect.unit (s := S512x2048) (k0_off78 k) ![32, 128] (hin 13 (k0_off78_eq k))).toLoadRect X2 = s13
  generalize hs14 : View.readAt (Elt Ideal) a2.view (Rect.unit (s := S512x2048) (k0_off79 k) ![32, 128] (hin 14 (k0_off79_eq k))).toLoadRect X2 = s14
  generalize hs15 : View.readAt (Elt Ideal) a2.view (Rect.unit (s := S512x2048) (k0_off80 k) ![32, 128] (hin 15 (k0_off80_eq k))).toLoadRect X2 = s15
  generalize hw0 : View.readAt (Elt Ideal) a3.view (Rect.unit (s := S1x2048) ![0, 0] ![1, 128] (hin' 0)).toLoadRect X3 = w0
  generalize hw1 : View.readAt (Elt Ideal) a3.view (Rect.unit (s := S1x2048) ![0, 128] ![1, 128] (hin' 1)).toLoadRect X3 = w1
  generalize hw2 : View.readAt (Elt Ideal) a3.view (Rect.unit (s := S1x2048) ![0, 256] ![1, 128] (hin' 2)).toLoadRect X3 = w2
  generalize hw3 : View.readAt (Elt Ideal) a3.view (Rect.unit (s := S1x2048) ![0, 384] ![1, 128] (hin' 3)).toLoadRect X3 = w3
  generalize hw4 : View.readAt (Elt Ideal) a3.view (Rect.unit (s := S1x2048) ![0, 512] ![1, 128] (hin' 4)).toLoadRect X3 = w4
  generalize hw5 : View.readAt (Elt Ideal) a3.view (Rect.unit (s := S1x2048) ![0, 640] ![1, 128] (hin' 5)).toLoadRect X3 = w5
  generalize hw6 : View.readAt (Elt Ideal) a3.view (Rect.unit (s := S1x2048) ![0, 768] ![1, 128] (hin' 6)).toLoadRect X3 = w6
  generalize hw7 : View.readAt (Elt Ideal) a3.view (Rect.unit (s := S1x2048) ![0, 896] ![1, 128] (hin' 7)).toLoadRect X3 = w7
  generalize hw8 : View.readAt (Elt Ideal) a3.view (Rect.unit (s := S1x2048) ![0, 1024] ![1, 128] (hin' 8)).toLoadRect X3 = w8
  generalize hw9 : View.readAt (Elt Ideal) a3.view (Rect.unit (s := S1x2048) ![0, 1152] ![1, 128] (hin' 9)).toLoadRect X3 = w9
  generalize hw10 : View.readAt (Elt Ideal) a3.view (Rect.unit (s := S1x2048) ![0, 1280] ![1, 128] (hin' 10)).toLoadRect X3 = w10
  generalize hw11 : View.readAt (Elt Ideal) a3.view (Rect.unit (s := S1x2048) ![0, 1408] ![1, 128] (hin' 11)).toLoadRect X3 = w11
  generalize hw12 : View.readAt (Elt Ideal) a3.view (Rect.unit (s := S1x2048) ![0, 1536] ![1, 128] (hin' 12)).toLoadRect X3 = w12
  generalize hw13 : View.readAt (Elt Ideal) a3.view (Rect.unit (s := S1x2048) ![0, 1664] ![1, 128] (hin' 13)).toLoadRect X3 = w13
  generalize hw14 : View.readAt (Elt Ideal) a3.view (Rect.unit (s := S1x2048) ![0, 1792] ![1, 128] (hin' 14)).toLoadRect X3 = w14
  generalize hw15 : View.readAt (Elt Ideal) a3.view (Rect.unit (s := S1x2048) ![0, 1920] ![1, 128] (hin' 15)).toLoadRect X3 = w15
  replace hs0 : ∀ r l, s0 (ix2 r l) = a2.view.read (Elt Ideal) X2 (ix2 (cr hk r) (gl 0 l)) := fun r l => hs0 ▸ slab_eq hk a2.view X2 0 (k0_off65_eq k) _ r l
  replace hs1 : ∀ r l, s1 (ix2 r l) = a2.view.read (Elt Ideal) X2 (ix2 (cr hk r) (gl 1 l)) := fun r l => hs1 ▸ slab_eq hk a2.view X2 1 (k0_off66_eq k) _ r l
  replace hs2 : ∀ r l, s2 (ix2 r l) = a2.view.read (Elt Ideal) X2 (ix2 (cr hk r) (gl 2 l)) := fun r l => hs2 ▸ slab_eq hk a2.view X2 2 (k0_off67_eq k) _ r l
  replace hs3 : ∀ r l, s3 (ix2 r l) = a2.view.read (Elt Ideal) X2 (ix2 (cr hk r) (gl 3 l)) := fun r l => hs3 ▸ slab_eq hk a2.view X2 3 (k0_off68_eq k) _ r l
  replace hs4 : ∀ r l, s4 (ix2 r l) = a2.view.read (Elt Ideal) X2 (ix2 (cr hk r) (gl 4 l)) := fun r l => hs4 ▸ slab_eq hk a2.view X2 4 (k0_off69_eq k) _ r l
  replace hs5 : ∀ r l, s5 (ix2 r l) = a2.view.read (Elt Ideal) X2 (ix2 (cr hk r) (gl 5 l)) := fun r l => hs5 ▸ slab_eq hk a2.view X2 5 (k0_off70_eq k) _ r l
  replace hs6 : ∀ r l, s6 (ix2 r l) = a2.view.read (Elt Ideal) X2 (ix2 (cr hk r) (gl 6 l)) := fun r l => hs6 ▸ slab_eq hk a2.view X2 6 (k0_off71_eq k) _ r l
  replace hs7 : ∀ r l, s7 (ix2 r l) = a2.view.read (Elt Ideal) X2 (ix2 (cr hk r) (gl 7 l)) := fun r l => hs7 ▸ slab_eq hk a2.view X2 7 (k0_off72_eq k) _ r l
  replace hs8 : ∀ r l, s8 (ix2 r l) = a2.view.read (Elt Ideal) X2 (ix2 (cr hk r) (gl 8 l)) := fun r l => hs8 ▸ slab_eq hk a2.view X2 8 (k0_off73_eq k) _ r l
  replace hs9 : ∀ r l, s9 (ix2 r l) = a2.view.read (Elt Ideal) X2 (ix2 (cr hk r) (gl 9 l)) := fun r l => hs9 ▸ slab_eq hk a2.view X2 9 (k0_off74_eq k) _ r l
  replace hs10 : ∀ r l, s10 (ix2 r l) = a2.view.read (Elt Ideal) X2 (ix2 (cr hk r) (gl 10 l)) := fun r l => hs10 ▸ slab_eq hk a2.view X2 10 (k0_off75_eq k) _ r l
  replace hs11 : ∀ r l, s11 (ix2 r l) = a2.view.read (Elt Ideal) X2 (ix2 (cr hk r) (gl 11 l)) := fun r l => hs11 ▸ slab_eq hk a2.view X2 11 (k0_off76_eq k) _ r l
  replace hs12 : ∀ r l, s12 (ix2 r l) = a2.view.read (Elt Ideal) X2 (ix2 (cr hk r) (gl 12 l)) := fun r l => hs12 ▸ slab_eq hk a2.view X2 12 (k0_off77_eq k) _ r l
  replace hs13 : ∀ r l, s13 (ix2 r l) = a2.view.read (Elt Ideal) X2 (ix2 (cr hk r) (gl 13 l)) := fun r l => hs13 ▸ slab_eq hk a2.view X2 13 (k0_off78_eq k) _ r l
  replace hs14 : ∀ r l, s14 (ix2 r l) = a2.view.read (Elt Ideal) X2 (ix2 (cr hk r) (gl 14 l)) := fun r l => hs14 ▸ slab_eq hk a2.view X2 14 (k0_off79_eq k) _ r l
  replace hs15 : ∀ r l, s15 (ix2 r l) = a2.view.read (Elt Ideal) X2 (ix2 (cr hk r) (gl 15 l)) := fun r l => hs15 ▸ slab_eq hk a2.view X2 15 (k0_off80_eq k) _ r l
  replace hw0 : ∀ l, w0 (ix2 0 l) = a3.view.read (Elt Ideal) X3 (ix2 0 (gl 0 l)) := fun l => hw0 ▸ wslab_eq a3.view X3 0 rfl _ l
  replace hw1 : ∀ l, w1 (ix2 0 l) = a3.view.read (Elt Ideal) X3 (ix2 0 (gl 1 l)) := fun l => hw1 ▸ wslab_eq a3.view X3 1 rfl _ l
  replace hw2 : ∀ l, w2 (ix2 0 l) = a3.view.read (Elt Ideal) X3 (ix2 0 (gl 2 l)) := fun l => hw2 ▸ wslab_eq a3.view X3 2 rfl _ l
  replace hw3 : ∀ l, w3 (ix2 0 l) = a3.view.read (Elt Ideal) X3 (ix2 0 (gl 3 l)) := fun l => hw3 ▸ wslab_eq a3.view X3 3 rfl _ l
  replace hw4 : ∀ l, w4 (ix2 0 l) = a3.view.read (Elt Ideal) X3 (ix2 0 (gl 4 l)) := fun l => hw4 ▸ wslab_eq a3.view X3 4 rfl _ l
  replace hw5 : ∀ l, w5 (ix2 0 l) = a3.view.read (Elt Ideal) X3 (ix2 0 (gl 5 l)) := fun l => hw5 ▸ wslab_eq a3.view X3 5 rfl _ l
  replace hw6 : ∀ l, w6 (ix2 0 l) = a3.view.read (Elt Ideal) X3 (ix2 0 (gl 6 l)) := fun l => hw6 ▸ wslab_eq a3.view X3 6 rfl _ l
  replace hw7 : ∀ l, w7 (ix2 0 l) = a3.view.read (Elt Ideal) X3 (ix2 0 (gl 7 l)) := fun l => hw7 ▸ wslab_eq a3.view X3 7 rfl _ l
  replace hw8 : ∀ l, w8 (ix2 0 l) = a3.view.read (Elt Ideal) X3 (ix2 0 (gl 8 l)) := fun l => hw8 ▸ wslab_eq a3.view X3 8 rfl _ l
  replace hw9 : ∀ l, w9 (ix2 0 l) = a3.view.read (Elt Ideal) X3 (ix2 0 (gl 9 l)) := fun l => hw9 ▸ wslab_eq a3.view X3 9 rfl _ l
  replace hw10 : ∀ l, w10 (ix2 0 l) = a3.view.read (Elt Ideal) X3 (ix2 0 (gl 10 l)) := fun l => hw10 ▸ wslab_eq a3.view X3 10 rfl _ l
  replace hw11 : ∀ l, w11 (ix2 0 l) = a3.view.read (Elt Ideal) X3 (ix2 0 (gl 11 l)) := fun l => hw11 ▸ wslab_eq a3.view X3 11 rfl _ l
  replace hw12 : ∀ l, w12 (ix2 0 l) = a3.view.read (Elt Ideal) X3 (ix2 0 (gl 12 l)) := fun l => hw12 ▸ wslab_eq a3.view X3 12 rfl _ l
  replace hw13 : ∀ l, w13 (ix2 0 l) = a3.view.read (Elt Ideal) X3 (ix2 0 (gl 13 l)) := fun l => hw13 ▸ wslab_eq a3.view X3 13 rfl _ l
  replace hw14 : ∀ l, w14 (ix2 0 l) = a3.view.read (Elt Ideal) X3 (ix2 0 (gl 14 l)) := fun l => hw14 ▸ wslab_eq a3.view X3 14 rfl _ l
  replace hw15 : ∀ l, w15 (ix2 0 l) = a3.view.read (Elt Ideal) X3 (ix2 0 (gl 15 l)) := fun l => hw15 ▸ wslab_eq a3.view X3 15 rfl _ l
  let s : Fin 16 → Vec Ideal S32x128 .bf16 := fun g => match g with
    | ⟨0, _⟩ => s0
    | ⟨1, _⟩ => s1
    | ⟨2, _⟩ => s2
    | ⟨3, _⟩ => s3
    | ⟨4, _⟩ => s4
    | ⟨5, _⟩ => s5
    | ⟨6, _⟩ => s6
    | ⟨7, _⟩ => s7
    | ⟨8, _⟩ => s8
    | ⟨9, _⟩ => s9
    | ⟨10, _⟩ => s10
    | ⟨11, _⟩ => s11
    | ⟨12, _⟩ => s12
    | ⟨13, _⟩ => s13
    | ⟨14, _⟩ => s14
    | ⟨15, _⟩ => s15
    | ⟨n + 16, h⟩ => absurd h (by omega)
  let ws : Fin 16 → Vec Ideal S1x128 .f32 := fun g => match g with
    | ⟨0, _⟩ => w0
    | ⟨1, _⟩ => w1
    | ⟨2, _⟩ => w2
    | ⟨3, _⟩ => w3
    | ⟨4, _⟩ => w4
    | ⟨5, _⟩ => w5
    | ⟨6, _⟩ => w6
    | ⟨7, _⟩ => w7
    | ⟨8, _⟩ => w8
    | ⟨9, _⟩ => w9
    | ⟨10, _⟩ => w10
    | ⟨11, _⟩ => w11
    | ⟨12, _⟩ => w12
    | ⟨13, _⟩ => w13
    | ⟨14, _⟩ => w14
    | ⟨15, _⟩ => w15
    | ⟨n + 16, h⟩ => absurd h (by omega)
  have hs : ∀ g r l, s g (ix2 r l) = a2.view.read (Elt Ideal) X2 (ix2 (cr hk r) (gl g l)) := fun g => match g with
    | ⟨0, _⟩ => hs0
    | ⟨1, _⟩ => hs1
    | ⟨2, _⟩ => hs2
    | ⟨3, _⟩ => hs3
    | ⟨4, _⟩ => hs4
    | ⟨5, _⟩ => hs5
    | ⟨6, _⟩ => hs6
    | ⟨7, _⟩ => hs7
    | ⟨8, _⟩ => hs8
    | ⟨9, _⟩ => hs9
    | ⟨10, _⟩ => hs10
    | ⟨11, _⟩ => hs11
    | ⟨12, _⟩ => hs12
    | ⟨13, _⟩ => hs13
    | ⟨14, _⟩ => hs14
    | ⟨15, _⟩ => hs15
    | ⟨n + 16, h⟩ => absurd h (by omega)
  have hws : ∀ g l, ws g (ix2 0 l) = a3.view.read (Elt Ideal) X3 (ix2 0 (gl g l)) := fun g => match g with
    | ⟨0, _⟩ => hw0
    | ⟨1, _⟩ => hw1
    | ⟨2, _⟩ => hw2
    | ⟨3, _⟩ => hw3
    | ⟨4, _⟩ => hw4
    | ⟨5, _⟩ => hw5
    | ⟨6, _⟩ => hw6
    | ⟨7, _⟩ => hw7
    | ⟨8, _⟩ => hw8
    | ⟨9, _⟩ => hw9
    | ⟨10, _⟩ => hw10
    | ⟨11, _⟩ => hw11
    | ⟨12, _⟩ => hw12
    | ⟨13, _⟩ => hw13
    | ⟨14, _⟩ => hw14
    | ⟨15, _⟩ => hw15
    | ⟨n + 16, h⟩ => absurd h (by omega)
  have hR : ∀ r, k0_pay42 (k0_pay40 (k0_pay39 s0 s1 s2 s3 s4 s5 s6 s7) s8 s9 s10 s11 s12 s13 s14 s15) k0_pay41 (ix2 r 0) =
      rms (xRow (a2.view.read (Elt Ideal) X2) (cr hk r)) := chunkR_eq hk _ s hs
  generalize k0_pay40 (k0_pay39 s0 s1 s2 s3 s4 s5 s6 s7) s8 s9 s10 s11 s12 s13 s14 s15 = Q at hR ⊢
  have hc := fun g => scale_col hk _ _ hw g Q hR (s g) (hs g) (ws g) (hws g)
  refine ⟨?_, ?_, ?_⟩
  · refine strip_cons (k0_off80_eq k) (code_piece hk _ _ hw 15 Q hR s15 hs15 w15 hw15 (k0_off80_eq k) _) <|
      strip_cons (k0_off79_eq k) (code_piece hk _ _ hw 14 Q hR s14 hs14 w14 hw14 (k0_off79_eq k) _) <|
      strip_cons (k0_off78_eq k) (code_piece hk _ _ hw 13 Q hR s13 hs13 w13 hw13 (k0_off78_eq k) _) <|
      strip_cons (k0_off77_eq k) (code_piece hk _ _ hw 12 Q hR s12 hs12 w12 hw12 (k0_off77_eq k) _) <|
      strip_cons (k0_off76_eq k) (code_piece hk _ _ hw 11 Q hR s11 hs11 w11 hw11 (k0_off76_eq k) _) <|
      strip_cons (k0_off75_eq k) (code_piece hk _ _ hw 10 Q hR s10 hs10 w10 hw10 (k0_off75_eq k) _) <|
      strip_cons (k0_off74_eq k) (code_piece hk _ _ hw 9 Q hR s9 hs9 w9 hw9 (k0_off74_eq k) _) <|
      strip_cons (k0_off73_eq k) (code_piece hk _ _ hw 8 Q hR s8 hs8 w8 hw8 (k0_off73_eq k) _) <|
      strip_cons (k0_off72_eq k) (code_piece hk _ _ hw 7 Q hR s7 hs7 w7 hw7 (k0_off72_eq k) _) <|
      strip_cons (k0_off71_eq k) (code_piece hk _ _ hw 6 Q hR s6 hs6 w6 hw6 (k0_off71_eq k) _) <|
      strip_cons (k0_off70_eq k) (code_piece hk _ _ hw 5 Q hR s5 hs5 w5 hw5 (k0_off70_eq k) _) <|
      strip_cons (k0_off69_eq k) (code_piece hk _ _ hw 4 Q hR s4 hs4 w4 hw4 (k0_off69_eq k) _) <|
      strip_cons (k0_off68_eq k) (code_piece hk _ _ hw 3 Q hR s3 hs3 w3 hw3 (k0_off68_eq k) _) <|
      strip_cons (k0_off67_eq k) (code_piece hk _ _ hw 2 Q hR s2 hs2 w2 hw2 (k0_off67_eq k) _) <|
      strip_cons (k0_off66_eq k) (code_piece hk _ _ hw 1 Q hR s1 hs1 w1 hw1 (k0_off66_eq k) _) <|
      strip_cons (k0_off65_eq k) (code_piece hk _ _ hw 0 Q hR s0 hs0 w0 hw0 (k0_off65_eq k) _) <|
      strip_nil _ _ _
  · exact strip_cons (k0_off81_eq k) (scale_piece hk _ _ (fun g => k0_pay50 (k0_pay47 Q k0_pay41 (s g) (ws g)) k0_pay48) hc (k0_off81_eq k) _) <|
      strip_nil _ _ _
  · refine strip_cons (k0_off80_eq k) (hb_piece hk _ _ hw 15 Q hR s15 hs15 w15 hw15 (k0_off80_eq k) _) <|
      strip_cons (k0_off79_eq k) (hb_piece hk _ _ hw 14 Q hR s14 hs14 w14 hw14 (k0_off79_eq k) _) <|
      strip_cons (k0_off78_eq k) (hb_piece hk _ _ hw 13 Q hR s13 hs13 w13 hw13 (k0_off78_eq k) _) <|
      strip_cons (k0_off77_eq k) (hb_piece hk _ _ hw 12 Q hR s12 hs12 w12 hw12 (k0_off77_eq k) _) <|
      strip_cons (k0_off76_eq k) (hb_piece hk _ _ hw 11 Q hR s11 hs11 w11 hw11 (k0_off76_eq k) _) <|
      strip_cons (k0_off75_eq k) (hb_piece hk _ _ hw 10 Q hR s10 hs10 w10 hw10 (k0_off75_eq k) _) <|
      strip_cons (k0_off74_eq k) (hb_piece hk _ _ hw 9 Q hR s9 hs9 w9 hw9 (k0_off74_eq k) _) <|
      strip_cons (k0_off73_eq k) (hb_piece hk _ _ hw 8 Q hR s8 hs8 w8 hw8 (k0_off73_eq k) _) <|
      strip_cons (k0_off72_eq k) (hb_piece hk _ _ hw 7 Q hR s7 hs7 w7 hw7 (k0_off72_eq k) _) <|
      strip_cons (k0_off71_eq k) (hb_piece hk _ _ hw 6 Q hR s6 hs6 w6 hw6 (k0_off71_eq k) _) <|
      strip_cons (k0_off70_eq k) (hb_piece hk _ _ hw 5 Q hR s5 hs5 w5 hw5 (k0_off70_eq k) _) <|
      strip_cons (k0_off69_eq k) (hb_piece hk _ _ hw 4 Q hR s4 hs4 w4 hw4 (k0_off69_eq k) _) <|
      strip_cons (k0_off68_eq k) (hb_piece hk _ _ hw 3 Q hR s3 hs3 w3 hw3 (k0_off68_eq k) _) <|
      strip_cons (k0_off67_eq k) (hb_piece hk _ _ hw 2 Q hR s2 hs2 w2 hw2 (k0_off67_eq k) _) <|
      strip_cons (k0_off66_eq k) (hb_piece hk _ _ hw 1 Q hR s1 hs1 w1 hw1 (k0_off66_eq k) _) <|
      strip_cons (k0_off65_eq k) (hb_piece hk _ _ hw 0 Q hR s0 hs0 w0 hw0 (k0_off65_eq k) _) <|
      strip_nil _ _ _

/-- What the first `n` trips store. -/
theorem chunks_strip (𝒱 : Variants) (c : Dev nD) (bd : Option 𝒱.V) (i : grid0.Coords) a1 h1 a2 h2 a3 h3 a4 h4 a5 h5 a6 h6 a7 h7 a8 h8 a9 h9 a10 h10 a11 h11 a12 h12 a13 h13
    (X2 : BufTy.Contents (Elt Ideal) a2.view.ty) (X3 : BufTy.Contents (Elt Ideal) a3.view.ty)
    (hw : ∀ d, max (wRow (a3.view.read (Elt Ideal) X3) d) (-(wRow (a3.view.read (Elt Ideal) X3) d)) ≤ Ideal.ofBits .f32 2139095039#32)
    (n : ℕ) (hn : n ≤ 16) :
    Strip (pb_k0_t2 (F := Ideal) 𝒱 c bd i a1 h1 a2 h2 a3 h3 a4 h4 a5 h5 a6 h6 a7 h7 a8 h8 a9 h9 a10 h10 a11 h11 a12 h12 a13 h13 X2 X3 n).1 (codesG (a2.view.read (Elt Ideal) X2) (a3.view.read (Elt Ideal) X3)) 0 (32 * n) 2048 ∧
    Strip (pb_k0_t2 (F := Ideal) 𝒱 c bd i a1 h1 a2 h2 a3 h3 a4 h4 a5 h5 a6 h6 a7 h7 a8 h8 a9 h9 a10 h10 a11 h11 a12 h12 a13 h13 X2 X3 n).2.1 (scaleG (a2.view.read (Elt Ideal) X2) (a3.view.read (Elt Ideal) X3)) 0 (32 * n) 16 ∧
    Strip (pb_k0_t2 (F := Ideal) 𝒱 c bd i a1 h1 a2 h2 a3 h3 a4 h4 a5 h5 a6 h6 a7 h7 a8 h8 a9 h9 a10 h10 a11 h11 a12 h12 a13 h13 X2 X3 n).2.2 (hbG (a2.view.read (Elt Ideal) X2) (a3.view.read (Elt Ideal) X3)) 0 (32 * n) 2048 := by
  induction n with
  | zero =>
    refine ⟨⟨agree_nil _, ?_⟩, ⟨agree_nil _, ?_⟩, ⟨agree_nil _, ?_⟩⟩ <;> intro y _ h _ <;> exact absurd h (by omega)
  | succ n ih =>
    have := ih (by omega)
    have ht := trip_agree 𝒱 c bd i a1 h1 a2 h2 a3 h3 a4 h4 a5 h5 a6 h6 a7 h7 a8 h8 a9 h9 a10 h10 a11 h11 a12 h12 a13 h13 X2 X3 ⟨n, by show n < 16; omega⟩ hw
    rw [show n + 1 = (⟨n, by show n < 16; omega⟩ : Fin k0_t2_loop.trips).val + 1 from rfl, pb_k0_t2_succ]
    rw [show 32 * ((⟨n, by show n < 16; omega⟩ : Fin k0_t2_loop.trips).val + 1) = 32 * n + 32 from by show 32 * (n + 1) = _; omega]
    exact ⟨strip_append ht.1 this.1, strip_append ht.2.1 this.2.1, strip_append ht.2.2 this.2.2⟩

/-- What the loop over the chunks leaves in the codes, the scales and the widened rows. -/
theorem chunks_canon (𝒱 : Variants) (c : Dev nD) (bd : Option 𝒱.V) (i : grid0.Coords) a1 h1 a2 h2 a3 h3 a4 h4 a5 h5 a6 h6 a7 h7 a8 h8 a9 h9 a10 h10 a11 h11 a12 h12 a13 h13
    (X2 : BufTy.Contents (Elt Ideal) a2.view.ty) (X3 : BufTy.Contents (Elt Ideal) a3.view.ty)
    (hw : ∀ d, max (wRow (a3.view.read (Elt Ideal) X3) d) (-(wRow (a3.view.read (Elt Ideal) X3) d)) ≤ Ideal.ofBits .f32 2139095039#32) :
    View.canon (pb_k0_t2 (F := Ideal) 𝒱 c bd i a1 h1 a2 h2 a3 h3 a4 h4 a5 h5 a6 h6 a7 h7 a8 h8 a9 h9 a10 h10 a11 h11 a12 h12 a13 h13 X2 X3 16).1 = codesG (a2.view.read (Elt Ideal) X2) (a3.view.read (Elt Ideal) X3) ∧
    View.canon (pb_k0_t2 (F := Ideal) 𝒱 c bd i a1 h1 a2 h2 a3 h3 a4 h4 a5 h5 a6 h6 a7 h7 a8 h8 a9 h9 a10 h10 a11 h11 a12 h12 a13 h13 X2 X3 16).2.1 = scaleG (a2.view.read (Elt Ideal) X2) (a3.view.read (Elt Ideal) X3) ∧
    View.canon (pb_k0_t2 (F := Ideal) 𝒱 c bd i a1 h1 a2 h2 a3 h3 a4 h4 a5 h5 a6 h6 a7 h7 a8 h8 a9 h9 a10 h10 a11 h11 a12 h12 a13 h13 X2 X3 16).2.2 = hbG (a2.view.read (Elt Ideal) X2) (a3.view.read (Elt Ideal) X3) := by
  have h := chunks_strip 𝒱 c bd i a1 h1 a2 h2 a3 h3 a4 h4 a5 h5 a6 h6 a7 h7 a8 h8 a9 h9 a10 h10 a11 h11 a12 h12 a13 h13 X2 X3 hw 16 le_rfl
  exact ⟨canon_of_strip h.1, canon_of_strip h.2.1, canon_of_strip h.2.2⟩

end Cert.Qkv

end

end
-- ==== Proof.Weights.lean ====
module

public import proofs.«01_k».proof.Proof.Chunk

@[expose] public section

set_option maxRecDepth 16384

noncomputable section

namespace Cert.Qkv

open Idealize.ShloMosaic Cert.KernelIdeal Cert.KernelIdeal.Gen

/-! The weights the first grid point widens and keeps. -/

/-- The widened weights. -/
def wbG (q : S2048x4096.Idx → EReal) (s : S16x32.Idx → EReal) : S2048x4096.Idx → EReal :=
  fun y => wbAt (fun d n => q (ix2 d n)) (fun g n => s (ix2 g n)) (y 0) (y 1)

/-- Row `r` of row block `k`. -/
abbrev wr {k : ℕ} (hk : k < 16) (r : Fin 128) : Fin 2048 := ⟨128 * k + r, by omega⟩

/-- Column `l` of column block `n`. -/
abbrev wc (n : Fin 32) (l : Fin 128) : Fin 4096 := ⟨128 * n + l, by omega⟩

section trip
variable {k : ℕ} (hk : k < 16)

/-- A tile read from the weights. -/
theorem tile_eq {sig : RefSig} {κ : Kind} {sp : Space} (v : View sig κ sp S2048x4096 .fp8e4m3) (X : v.ty.Contents (Elt Ideal)) (n : Fin 32) {o : Fin 2 → ℕ}
    (ho : o = ![128 * k, 128 * (n : ℕ)]) (hin : ∀ i, o i + (![128, 128] : Fin 2 → ℕ) i ≤ (![2048, 4096] : Fin 2 → ℕ) i) (r : Fin 128) (l : Fin 128) :
    View.readAt (Elt Ideal) v (Rect.unit (s := S2048x4096) o ![128, 128] hin).toLoadRect X (ix2 r l) = v.read (Elt Ideal) X (ix2 (wr hk r) (wc n l)) :=
  readAt_unit2 v o _ _ ho hin X r l (by omega) (by omega)

/-- A tile's scale. -/
theorem word_eq {sig : RefSig} {κ : Kind} {sp : Space} (v : View sig κ sp S16x32 .f32) (X : v.ty.Contents (Elt Ideal)) (n : Fin 32) {o : Fin 2 → ℕ}
    (ho : o = ![k, (n : ℕ)]) (hin : ∀ i, o i + (![1, 1] : Fin 2 → ℕ) i ≤ (![16, 32] : Fin 2 → ℕ) i) (j : Shape.Idx ⟨2, ![1, 1]⟩) :
    View.readAt (Elt Ideal) v (Rect.unit (s := S16x32) o ![1, 1] hin).toLoadRect X j = v.read (Elt Ideal) X (ix2 ⟨k, hk⟩ n) := by
  have hj : j = ix2 (0 : Fin 1) (0 : Fin 1) := by
    funext i
    match i with
    | 0 => exact Subsingleton.elim (α := Fin 1) _ _
    | 1 => exact Subsingleton.elim (α := Fin 1) _ _
  subst hj
  exact readAt_unit2 v o _ _ ho hin X 0 0 (by simpa using hk) (by simp)

/-- What row block `k` stores for column block `n`. -/
theorem weight_piece (q : S2048x4096.Idx → EReal) (s : S16x32.Idx → EReal) (n : Fin 32)
    (t : Vec Ideal S128x128 .fp8e4m3) (ht : ∀ r l, t (ix2 r l) = q (ix2 (wr hk r) (wc n l)))
    (σ : Elt Ideal .f32) (hσ : σ = s (ix2 ⟨k, hk⟩ n)) {o : Fin 2 → ℕ} (ho : o = ![128 * k, 128 * (n : ℕ)])
    (hin : ∀ i, o i + (![128, 128] : Fin 2 → ℕ) i ≤ (![2048, 4096] : Fin 2 → ℕ) i) (j : S128x128.Idx) :
    k0_pay2 t σ j = wbG q s ((Rect.unit (s := S2048x4096) o ![128, 128] hin).emb j) := by
  obtain ⟨r, l, rfl⟩ : ∃ r l, j = ix2 r l := ⟨j 0, j 1, by funext i; match i with | 0 => rfl | 1 => rfl⟩
  rw [emb_piece ho hin r l (by omega) (by omega)]
  pointwise [k0_pay2]
  rw [ht, hσ]
  show _ = wbAt _ _ (wr hk r) (wc n l)
  unfold wbAt
  have e0 : grp (wr hk r) = ⟨k, hk⟩ := by apply Fin.ext; show (128 * k + r : ℕ) / 128 = k; omega
  have e1 : colGrp (wc n l) = n := by apply Fin.ext; show (128 * n + l : ℕ) / 128 = n; omega
  rw [e0, e1]
end trip

set_option maxHeartbeats 1000000 in
/-- What one trip of the loop over the weights' row blocks stores. -/
theorem weights_trip (𝒱 : Variants) (c : Dev nD) (bd : Option 𝒱.V) (i : grid0.Coords) a1 h1 a2 h2 a3 h3 a4 h4 a5 h5 a6 h6 a7 h7 a8 h8 a9 h9 a10 h10 a11 h11 a12 h12 a13 h13 hz
    (X1 : BufTy.Contents (Elt Ideal) a1.view.ty) (X4 : BufTy.Contents (Elt Ideal) a4.view.ty) (k : Fin k0_t1_loop.trips) :
    Strip (tripL_k0_t1 (F := Ideal) 𝒱 c bd i a1 h1 a2 h2 a3 h3 a4 h4 a5 h5 a6 h6 a7 h7 a8 h8 a9 h9 a10 h10 a11 h11 a12 h12 a13 h13 hz X1 X4 k)
      (wbG (a4.view.read (Elt Ideal) X4) (a1.view.read (Elt Ideal) X1)) (128 * k.val) 128 4096 := by
  have hk : k.val < 16 := k.isLt
  unfold tripL_k0_t1 trip_k0_t1
  dsimp only
  simp only [
    trip_k0_t1.sl.r, trip_k0_t1.sl.r_1, trip_k0_t1.sl.r_2, trip_k0_t1.sl.r_3, trip_k0_t1.sl.r_4, trip_k0_t1.sl.r_5, trip_k0_t1.sl.r_6,
    trip_k0_t1.sl.r_7, trip_k0_t1.sl.r_8, trip_k0_t1.sl.r_9, trip_k0_t1.sl.r_10, trip_k0_t1.sl.r_11, trip_k0_t1.sl.r_12, trip_k0_t1.sl.r_13,
    trip_k0_t1.sl.r_14, trip_k0_t1.sl.r_15, trip_k0_t1.sl.r_16, trip_k0_t1.sl.r_17, trip_k0_t1.sl.r_18, trip_k0_t1.sl.r_19,
    trip_k0_t1.sl.r_20, trip_k0_t1.sl.r_21, trip_k0_t1.sl.r_22, trip_k0_t1.sl.r_23, trip_k0_t1.sl.r_24, trip_k0_t1.sl.r_25,
    trip_k0_t1.sl.r_26, trip_k0_t1.sl.r_27, trip_k0_t1.sl.r_28, trip_k0_t1.sl.r_29, trip_k0_t1.sl.r_30, trip_k0_t1.sl.r_31,
    trip_k0_t1.sl.r_32, trip_k0_t1.sl.r_33, trip_k0_t1.sl.r_34, trip_k0_t1.sl.r_35, trip_k0_t1.sl.r_36, trip_k0_t1.sl.r_37,
    trip_k0_t1.sl.r_38, trip_k0_t1.sl.r_39]
  exact strip_cons (k0_off63_eq k) (weight_piece hk _ _ 31 _ (tile_eq hk a4.view X4 31 (k0_off63_eq k) _) _ (word_eq hk a1.view X1 31 (k0_off64_eq k) _ _) (k0_off63_eq k) _) <|
    strip_cons (k0_off61_eq k) (weight_piece hk _ _ 30 _ (tile_eq hk a4.view X4 30 (k0_off61_eq k) _) _ (word_eq hk a1.view X1 30 (k0_off62_eq k) _ _) (k0_off61_eq k) _) <|
    strip_cons (k0_off59_eq k) (weight_piece hk _ _ 29 _ (tile_eq hk a4.view X4 29 (k0_off59_eq k) _) _ (word_eq hk a1.view X1 29 (k0_off60_eq k) _ _) (k0_off59_eq k) _) <|
    strip_cons (k0_off57_eq k) (weight_piece hk _ _ 28 _ (tile_eq hk a4.view X4 28 (k0_off57_eq k) _) _ (word_eq hk a1.view X1 28 (k0_off58_eq k) _ _) (k0_off57_eq k) _) <|
    strip_cons (k0_off55_eq k) (weight_piece hk _ _ 27 _ (tile_eq hk a4.view X4 27 (k0_off55_eq k) _) _ (word_eq hk a1.view X1 27 (k0_off56_eq k) _ _) (k0_off55_eq k) _) <|
    strip_cons (k0_off53_eq k) (weight_piece hk _ _ 26 _ (tile_eq hk a4.view X4 26 (k0_off53_eq k) _) _ (word_eq hk a1.view X1 26 (k0_off54_eq k) _ _) (k0_off53_eq k) _) <|
    strip_cons (k0_off51_eq k) (weight_piece hk _ _ 25 _ (tile_eq hk a4.view X4 25 (k0_off51_eq k) _) _ (word_eq hk a1.view X1 25 (k0_off52_eq k) _ _) (k0_off51_eq k) _) <|
    strip_cons (k0_off49_eq k) (weight_piece hk _ _ 24 _ (tile_eq hk a4.view X4 24 (k0_off49_eq k) _) _ (word_eq hk a1.view X1 24 (k0_off50_eq k) _ _) (k0_off49_eq k) _) <|
    strip_cons (k0_off47_eq k) (weight_piece hk _ _ 23 _ (tile_eq hk a4.view X4 23 (k0_off47_eq k) _) _ (word_eq hk a1.view X1 23 (k0_off48_eq k) _ _) (k0_off47_eq k) _) <|
    strip_cons (k0_off45_eq k) (weight_piece hk _ _ 22 _ (tile_eq hk a4.view X4 22 (k0_off45_eq k) _) _ (word_eq hk a1.view X1 22 (k0_off46_eq k) _ _) (k0_off45_eq k) _) <|
    strip_cons (k0_off43_eq k) (weight_piece hk _ _ 21 _ (tile_eq hk a4.view X4 21 (k0_off43_eq k) _) _ (word_eq hk a1.view X1 21 (k0_off44_eq k) _ _) (k0_off43_eq k) _) <|
    strip_cons (k0_off41_eq k) (weight_piece hk _ _ 20 _ (tile_eq hk a4.view X4 20 (k0_off41_eq k) _) _ (word_eq hk a1.view X1 20 (k0_off42_eq k) _ _) (k0_off41_eq k) _) <|
    strip_cons (k0_off39_eq k) (weight_piece hk _ _ 19 _ (tile_eq hk a4.view X4 19 (k0_off39_eq k) _) _ (word_eq hk a1.view X1 19 (k0_off40_eq k) _ _) (k0_off39_eq k) _) <|
    strip_cons (k0_off37_eq k) (weight_piece hk _ _ 18 _ (tile_eq hk a4.view X4 18 (k0_off37_eq k) _) _ (word_eq hk a1.view X1 18 (k0_off38_eq k) _ _) (k0_off37_eq k) _) <|
    strip_cons (k0_off35_eq k) (weight_piece hk _ _ 17 _ (tile_eq hk a4.view X4 17 (k0_off35_eq k) _) _ (word_eq hk a1.view X1 17 (k0_off36_eq k) _ _) (k0_off35_eq k) _) <|
    strip_cons (k0_off33_eq k) (weight_piece hk _ _ 16 _ (tile_eq hk a4.view X4 16 (k0_off33_eq k) _) _ (word_eq hk a1.view X1 16 (k0_off34_eq k) _ _) (k0_off33_eq k) _) <|
    strip_cons (k0_off31_eq k) (weight_piece hk _ _ 15 _ (tile_eq hk a4.view X4 15 (k0_off31_eq k) _) _ (word_eq hk a1.view X1 15 (k0_off32_eq k) _ _) (k0_off31_eq k) _) <|
    strip_cons (k0_off29_eq k) (weight_piece hk _ _ 14 _ (tile_eq hk a4.view X4 14 (k0_off29_eq k) _) _ (word_eq hk a1.view X1 14 (k0_off30_eq k) _ _) (k0_off29_eq k) _) <|
    strip_cons (k0_off27_eq k) (weight_piece hk _ _ 13 _ (tile_eq hk a4.view X4 13 (k0_off27_eq k) _) _ (word_eq hk a1.view X1 13 (k0_off28_eq k) _ _) (k0_off27_eq k) _) <|
    strip_cons (k0_off25_eq k) (weight_piece hk _ _ 12 _ (tile_eq hk a4.view X4 12 (k0_off25_eq k) _) _ (word_eq hk a1.view X1 12 (k0_off26_eq k) _ _) (k0_off25_eq k) _) <|
    strip_cons (k0_off23_eq k) (weight_piece hk _ _ 11 _ (tile_eq hk a4.view X4 11 (k0_off23_eq k) _) _ (word_eq hk a1.view X1 11 (k0_off24_eq k) _ _) (k0_off23_eq k) _) <|
    strip_cons (k0_off21_eq k) (weight_piece hk _ _ 10 _ (tile_eq hk a4.view X4 10 (k0_off21_eq k) _) _ (word_eq hk a1.view X1 10 (k0_off22_eq k) _ _) (k0_off21_eq k) _) <|
    strip_cons (k0_off19_eq k) (weight_piece hk _ _ 9 _ (tile_eq hk a4.view X4 9 (k0_off19_eq k) _) _ (word_eq hk a1.view X1 9 (k0_off20_eq k) _ _) (k0_off19_eq k) _) <|
    strip_cons (k0_off17_eq k) (weight_piece hk _ _ 8 _ (tile_eq hk a4.view X4 8 (k0_off17_eq k) _) _ (word_eq hk a1.view X1 8 (k0_off18_eq k) _ _) (k0_off17_eq k) _) <|
    strip_cons (k0_off15_eq k) (weight_piece hk _ _ 7 _ (tile_eq hk a4.view X4 7 (k0_off15_eq k) _) _ (word_eq hk a1.view X1 7 (k0_off16_eq k) _ _) (k0_off15_eq k) _) <|
    strip_cons (k0_off13_eq k) (weight_piece hk _ _ 6 _ (tile_eq hk a4.view X4 6 (k0_off13_eq k) _) _ (word_eq hk a1.view X1 6 (k0_off14_eq k) _ _) (k0_off13_eq k) _) <|
    strip_cons (k0_off11_eq k) (weight_piece hk _ _ 5 _ (tile_eq hk a4.view X4 5 (k0_off11_eq k) _) _ (word_eq hk a1.view X1 5 (k0_off12_eq k) _ _) (k0_off11_eq k) _) <|
    strip_cons (k0_off9_eq k) (weight_piece hk _ _ 4 _ (tile_eq hk a4.view X4 4 (k0_off9_eq k) _) _ (word_eq hk a1.view X1 4 (k0_off10_eq k) _ _) (k0_off9_eq k) _) <|
    strip_cons (k0_off7_eq k) (weight_piece hk _ _ 3 _ (tile_eq hk a4.view X4 3 (k0_off7_eq k) _) _ (word_eq hk a1.view X1 3 (k0_off8_eq k) _ _) (k0_off7_eq k) _) <|
    strip_cons (k0_off5_eq k) (weight_piece hk _ _ 2 _ (tile_eq hk a4.view X4 2 (k0_off5_eq k) _) _ (word_eq hk a1.view X1 2 (k0_off6_eq k) _ _) (k0_off5_eq k) _) <|
    strip_cons (k0_off3_eq k) (weight_piece hk _ _ 1 _ (tile_eq hk a4.view X4 1 (k0_off3_eq k) _) _ (word_eq hk a1.view X1 1 (k0_off4_eq k) _ _) (k0_off3_eq k) _) <|
    strip_cons (k0_off1_eq k) (weight_piece hk _ _ 0 _ (tile_eq hk a4.view X4 0 (k0_off1_eq k) _) _ (word_eq hk a1.view X1 0 (k0_off2_eq k) _ _) (k0_off1_eq k) _) <|
    strip_nil _ _ _

/-- What the first `n` trips store. -/
theorem weights_strip (𝒱 : Variants) (c : Dev nD) (bd : Option 𝒱.V) (i : grid0.Coords) a1 h1 a2 h2 a3 h3 a4 h4 a5 h5 a6 h6 a7 h7 a8 h8 a9 h9 a10 h10 a11 h11 a12 h12 a13 h13 hz
    (X1 : BufTy.Contents (Elt Ideal) a1.view.ty) (X4 : BufTy.Contents (Elt Ideal) a4.view.ty) (n : ℕ) (hn : n ≤ 16) :
    Strip (pb_k0_t1 (F := Ideal) 𝒱 c bd i a1 h1 a2 h2 a3 h3 a4 h4 a5 h5 a6 h6 a7 h7 a8 h8 a9 h9 a10 h10 a11 h11 a12 h12 a13 h13 hz X1 X4 n) (wbG (a4.view.read (Elt Ideal) X4) (a1.view.read (Elt Ideal) X1)) 0 (128 * n) 4096 := by
  induction n with
  | zero => exact ⟨agree_nil _, fun y _ h _ => absurd h (by omega)⟩
  | succ n ih =>
    have := ih (by omega)
    have ht := weights_trip 𝒱 c bd i a1 h1 a2 h2 a3 h3 a4 h4 a5 h5 a6 h6 a7 h7 a8 h8 a9 h9 a10 h10 a11 h11 a12 h12 a13 h13 hz X1 X4 ⟨n, by show n < 16; omega⟩
    rw [show n + 1 = (⟨n, by show n < 16; omega⟩ : Fin k0_t1_loop.trips).val + 1 from rfl, pb_k0_t1_succ]
    rw [show 128 * ((⟨n, by show n < 16; omega⟩ : Fin k0_t1_loop.trips).val + 1) = 128 * n + 128 from by show 128 * (n + 1) = _; omega]
    exact strip_append ht this

/-- What the loop over the weights leaves. -/
theorem weights_canon (𝒱 : Variants) (c : Dev nD) (bd : Option 𝒱.V) (i : grid0.Coords) a1 h1 a2 h2 a3 h3 a4 h4 a5 h5 a6 h6 a7 h7 a8 h8 a9 h9 a10 h10 a11 h11 a12 h12 a13 h13 hz
    (X1 : BufTy.Contents (Elt Ideal) a1.view.ty) (X4 : BufTy.Contents (Elt Ideal) a4.view.ty) :
    View.canon (pb_k0_t1 (F := Ideal) 𝒱 c bd i a1 h1 a2 h2 a3 h3 a4 h4 a5 h5 a6 h6 a7 h7 a8 h8 a9 h9 a10 h10 a11 h11 a12 h12 a13 h13 hz X1 X4 16) = wbG (a4.view.read (Elt Ideal) X4) (a1.view.read (Elt Ideal) X1) :=
  canon_of_strip (weights_strip 𝒱 c bd i a1 h1 a2 h2 a3 h3 a4 h4 a5 h5 a6 h6 a7 h7 a8 h8 a9 h9 a10 h10 a11 h11 a12 h12 a13 h13 hz X1 X4 16 le_rfl)

end Cert.Qkv

end

end
-- ==== Proof.Heads.lean ====
module

public import proofs.«01_k».proof.Proof.Weights
public import proofs.«01_k».proof.Proof.Gen.KernelIdeal.Frame

@[expose] public section

set_option maxRecDepth 16384

noncomputable section

namespace Cert.Qkv

open Idealize.ShloMosaic Cert.KernelIdeal Cert.KernelIdeal.Gen

/-! What one grid point stores into the five output blocks and keeps in the weights' scratch. -/

/-- Lane `l` of head `h`, counted from column `base`. -/
abbrev hcol {H : ℕ} (base : ℕ) (hB : base + H * 128 ≤ 4096) (h : Fin H) (l : Fin 128) : Fin 4096 := ⟨base + (h * 128 + l), by omega⟩

/-- `H` projected heads of `R` rows, normalised and weighted. -/
def headG {R : ℕ} (H base : ℕ) (hB : base + H * 128 ≤ 4096) (hb : Shape.Idx ⟨2, ![R, 2048]⟩ → EReal) (wb : S2048x4096.Idx → EReal) (w : S1x128.Idx → EReal) :
    Shape.Idx ⟨3, ![R, H, 128]⟩ → EReal :=
  fun y => headNorm (fun l => proj (fun d => hb (ix2 (y 0) d)) (fun d n => wb (ix2 d n)) (hcol base hB (y 1) l)) (fun l => w (ix2 0 l)) (y 2)

/-- `H` projected heads of `R` rows. -/
def valG {R : ℕ} (H base : ℕ) (hB : base + H * 128 ≤ 4096) (hb : Shape.Idx ⟨2, ![R, 2048]⟩ → EReal) (wb : S2048x4096.Idx → EReal) :
    Shape.Idx ⟨3, ![R, H, 128]⟩ → EReal :=
  fun y => proj (fun d => hb (ix2 (y 0) d)) (fun d n => wb (ix2 d n)) (hcol base hB (y 1) (y 2))

/-- The pieces of `L` hold the numbers of `G`, and every index whose head is below `c` lies in one. -/
def Heads {H : ℕ} {e : EltTy} (L : List (View.Piece (Elt Ideal) ⟨3, ![512, H, 128]⟩ e)) (G : Shape.Idx ⟨3, ![512, H, 128]⟩ → Elt Ideal e) (c : ℕ) : Prop :=
  Agree L G ∧ ∀ y : Shape.Idx ⟨3, ![512, H, 128]⟩, (y 1 : ℕ) < c → ∃ p ∈ L, y ∈ p.1.set

/-- No pieces cover no heads. -/
theorem heads_nil {H : ℕ} {e : EltTy} (G : Shape.Idx ⟨3, ![512, H, 128]⟩ → Elt Ideal e) : Heads [] G 0 :=
  ⟨agree_nil G, fun _ hy => absurd hy (Nat.not_lt_zero _)⟩

/-- Two more heads stored. -/
theorem heads_cons {H c : ℕ} {e : EltTy} {L : List (View.Piece (Elt Ideal) ⟨3, ![512, H, 128]⟩ e)} {G : Shape.Idx ⟨3, ![512, H, 128]⟩ → Elt Ideal e}
    {o : Fin 3 → ℕ} (ho : o = ![0, c, 0]) {hin : ∀ i, o i + (![512, 2, 128] : Fin 3 → ℕ) i ≤ (![512, H, 128] : Fin 3 → ℕ) i}
    {v : (Rect.unit (s := ⟨3, ![512, H, 128]⟩) o ![512, 2, 128] hin).shape.Idx → Elt Ideal e}
    (hv : ∀ j, v j = G ((Rect.unit (s := ⟨3, ![512, H, 128]⟩) o ![512, 2, 128] hin).emb j)) (hL : Heads L G c) :
    Heads (⟨Rect.unit (s := ⟨3, ![512, H, 128]⟩) o ![512, 2, 128] hin, v⟩ :: L) G (c + 2) := by
  refine ⟨agree_cons hv hL.1, fun y h1 => ?_⟩
  by_cases hc : (y 1 : ℕ) < c
  · obtain ⟨p, hp, hy⟩ := hL.2 y hc
    exact ⟨p, List.mem_cons_of_mem _ hp, hy⟩
  · refine ⟨_, List.mem_cons_self, ?_⟩
    subst ho
    rw [Rect.mem_set_unit]
    intro i
    match i with
    | 0 => exact ⟨Nat.zero_le _, lt_of_lt_of_eq (y 0).isLt (Nat.zero_add _).symm⟩
    | 1 => exact ⟨not_lt.mp hc, h1⟩
    | 2 => exact ⟨Nat.zero_le _, lt_of_lt_of_eq (y 2).isLt (Nat.zero_add _).symm⟩

/-- All heads stored leave the array. -/
theorem canon_of_heads {H : ℕ} {e : EltTy} {L : List (View.Piece (Elt Ideal) ⟨3, ![512, H, 128]⟩ e)} {G : Shape.Idx ⟨3, ![512, H, 128]⟩ → Elt Ideal e}
    (h : Heads L G H) : View.canon L = G :=
  canon_of_agree (fun y => h.2 y (y 1).isLt) h.1

/-- Where a pair of heads puts its entry `(r, u, l)`. -/
theorem emb_heads {H p : ℕ} {o : Fin 3 → ℕ} (ho : o = ![0, 2 * p, 0]) (h : ∀ i, o i + (![512, 2, 128] : Fin 3 → ℕ) i ≤ (![512, H, 128] : Fin 3 → ℕ) i)
    (r : Fin 512) (u : Fin 2) (l : Fin 128) (hu : 2 * p + u < H) :
    (Rect.unit (s := ⟨3, ![512, H, 128]⟩) o ![512, 2, 128] h).emb (ix3 r u l) = ix3 r ⟨2 * p + u, hu⟩ l := by
  subst ho
  funext i
  apply Fin.ext
  match i with
  | 0 => show 0 + 1 * (r : ℕ) = r; omega
  | 1 => show 2 * p + 1 * (u : ℕ) = 2 * p + u; omega
  | 2 => show 0 + 1 * (l : ℕ) = l; omega

/-- `ws` is the `n`-th 256 columns of the weights. -/
def Slice (wb : S2048x4096.Idx → EReal) (n : Fin 16) (ws : Vec Ideal S2048x256 .bf16) : Prop :=
  ∀ (d : Fin 2048) (l : Fin 256), ws (ix2 d l) = wb (ix2 d (⟨256 * (n : ℕ) + l, by omega⟩ : Fin 4096))

section piece
variable {H base p : ℕ} (hB : base + H * 128 ≤ 4096) (n : Fin 16) (hn : 256 * (n : ℕ) = base + 256 * p) (hp : 2 * p + 1 < H)
  (hb : Vec Ideal S512x2048 .bf16) (wb : S2048x4096.Idx → EReal) (ws : Vec Ideal S2048x256 .bf16) (hs : Slice wb n ws)
  {o : Fin 3 → ℕ} (ho : o = ![0, 2 * p, 0]) (hin : ∀ i, o i + (![512, 2, 128] : Fin 3 → ℕ) i ≤ (![512, H, 128] : Fin 3 → ℕ) i)

include hn hs in
/-- The first head's columns of a slice. -/
theorem slice_lo (d : Fin 2048) (l : Fin 128) (h0 : 2 * p < H) : ws (ix2 d (⟨l, by omega⟩ : Fin 256)) = wb (ix2 d (hcol base hB ⟨2 * p, h0⟩ l)) := by
  rw [hs]
  congr 2
  apply Fin.ext
  show 256 * (n : ℕ) + l = base + (2 * p * 128 + l)
  omega

include hn hs in
/-- The second head's columns of a slice. -/
theorem slice_hi (d : Fin 2048) (l : Fin 128) (h1 : 2 * p + 1 < H) : ws (ix2 d (⟨128 + l, by omega⟩ : Fin 256)) = wb (ix2 d (hcol base hB ⟨2 * p + 1, h1⟩ l)) := by
  rw [hs]
  congr 2
  apply Fin.ext
  show 256 * (n : ℕ) + (128 + l) = base + ((2 * p + 1) * 128 + l)
  omega

include hn hs in
/-- A row times the first head's columns. -/
theorem slice_projlo (r : Fin 512) (h0 : 2 * p < H) :
    (fun l : Fin 128 => ∑ d, hb (ix2 r d) * ws (ix2 d (⟨l, by omega⟩ : Fin 256))) = fun l => proj (fun d => hb (ix2 r d)) (fun d n => wb (ix2 d n)) (hcol base hB ⟨2 * p, h0⟩ l) := by
  funext l
  unfold proj
  exact Finset.sum_congr rfl fun d _ => congrArg _ (slice_lo hB n hn wb ws hs d l h0)

include hn hs in
/-- A row times the second head's columns. -/
theorem slice_projhi (r : Fin 512) (h1 : 2 * p + 1 < H) :
    (fun l : Fin 128 => ∑ d, hb (ix2 r d) * ws (ix2 d (⟨128 + l, by omega⟩ : Fin 256))) = fun l => proj (fun d => hb (ix2 r d)) (fun d n => wb (ix2 d n)) (hcol base hB ⟨2 * p + 1, h1⟩ l) := by
  funext l
  unfold proj
  exact Finset.sum_congr rfl fun d _ => congrArg _ (slice_hi hB n hn wb ws hs d l h1)

include hn hp hs ho in
/-- A pair of normalised heads. -/
theorem head_piece (w : Vec Ideal S1x128 .f32) (j : S512x2x128.Idx) :
    k0_pay193 hb ws w w j = headG H base hB hb wb w ((Rect.unit (s := ⟨3, ![512, H, 128]⟩) o ![512, 2, 128] hin).emb j) := by
  obtain ⟨r, u, l, rfl⟩ : ∃ r u l, j = ix3 r u l := ⟨j 0, j 1, j 2, by funext i; match i with | 0 => rfl | 1 => rfl | 2 => rfl⟩
  rw [emb_heads ho hin r u l (by omega)]
  pointwise [k0_pay193]
  match u with
  | ⟨0, _⟩ => exact (if_pos rfl).trans (congrArg (fun y => headNorm y (fun l => w (ix2 0 l)) l) (slice_projlo hB n hn hb wb ws hs r (by omega)))
  | ⟨1, _⟩ => exact (if_neg Nat.one_ne_zero).trans (congrArg (fun y => headNorm y (fun l => w (ix2 0 l)) l) (slice_projhi hB n hn hb wb ws hs r hp))

include hn hp hs ho in
/-- A pair of plain heads. -/
theorem val_piece (j : S512x2x128.Idx) :
    k0_pay222 hb ws j = valG H base hB hb wb ((Rect.unit (s := ⟨3, ![512, H, 128]⟩) o ![512, 2, 128] hin).emb j) := by
  obtain ⟨r, u, l, rfl⟩ : ∃ r u l, j = ix3 r u l := ⟨j 0, j 1, j 2, by funext i; match i with | 0 => rfl | 1 => rfl | 2 => rfl⟩
  rw [emb_heads ho hin r u l (by omega)]
  pointwise [k0_pay222]
  match u with
  | ⟨0, _⟩ => exact (if_pos rfl).trans (congrFun (slice_projlo hB n hn hb wb ws hs r (by omega)) l)
  | ⟨1, _⟩ => exact (if_neg Nat.one_ne_zero).trans (congrFun (slice_projhi hB n hn hb wb ws hs r hp) l)
end piece

/-- The query heads' stores, put together. -/
theorem q_heads (hb : Vec Ideal S512x2048 .bf16) (wb : S2048x4096.Idx → EReal) (w0 w1 w2 w3 w4 w5 w6 w7 : Vec Ideal S2048x256 .bf16)
    (h0 : Slice wb 0 w0) (h1 : Slice wb 1 w1) (h2 : Slice wb 2 w2) (h3 : Slice wb 3 w3) (h4 : Slice wb 4 w4) (h5 : Slice wb 5 w5) (h6 : Slice wb 6 w6) (h7 : Slice wb 7 w7) (w : Vec Ideal S1x128 .f32) :
    Heads [(⟨Rect.unit (s := S512x16x128) ![0, 14, 0] ![512, 2, 128] inb_S512x16x128_S512x2x128_0_14_0, k0_pay193 hb w7 w w⟩ : View.Piece (Elt Ideal) S512x16x128 .bf16),
      (⟨Rect.unit (s := S512x16x128) ![0, 12, 0] ![512, 2, 128] inb_S512x16x128_S512x2x128_0_12_0, k0_pay193 hb w6 w w⟩ : View.Piece (Elt Ideal) S512x16x128 .bf16),
      (⟨Rect.unit (s := S512x16x128) ![0, 10, 0] ![512, 2, 128] inb_S512x16x128_S512x2x128_0_10_0, k0_pay193 hb w5 w w⟩ : View.Piece (Elt Ideal) S512x16x128 .bf16),
      (⟨Rect.unit (s := S512x16x128) ![0, 8, 0] ![512, 2, 128] inb_S512x16x128_S512x2x128_0_8_0, k0_pay193 hb w4 w w⟩ : View.Piece (Elt Ideal) S512x16x128 .bf16),
      (⟨Rect.unit (s := S512x16x128) ![0, 6, 0] ![512, 2, 128] inb_S512x16x128_S512x2x128_0_6_0, k0_pay193 hb w3 w w⟩ : View.Piece (Elt Ideal) S512x16x128 .bf16),
      (⟨Rect.unit (s := S512x16x128) ![0, 4, 0] ![512, 2, 128] inb_S512x16x128_S512x2x128_0_4_0, k0_pay193 hb w2 w w⟩ : View.Piece (Elt Ideal) S512x16x128 .bf16),
      (⟨Rect.unit (s := S512x16x128) ![0, 2, 0] ![512, 2, 128] inb_S512x16x128_S512x2x128_0_2_0, k0_pay193 hb w1 w w⟩ : View.Piece (Elt Ideal) S512x16x128 .bf16),
      (⟨Rect.unit (s := S512x16x128) ![0, 0, 0] ![512, 2, 128] inb_S512x16x128_S512x2x128_0_0_0, k0_pay193 hb w0 w w⟩ : View.Piece (Elt Ideal) S512x16x128 .bf16)]
      (headG 16 0 (by omega) hb wb w) 16 :=
  heads_cons rfl (head_piece (p := 7) _ 7 rfl (by omega) hb wb w7 h7 rfl _ w) <|
  heads_cons rfl (head_piece (p := 6) _ 6 rfl (by omega) hb wb w6 h6 rfl _ w) <|
  heads_cons rfl (head_piece (p := 5) _ 5 rfl (by omega) hb wb w5 h5 rfl _ w) <|
  heads_cons rfl (head_piece (p := 4) _ 4 rfl (by omega) hb wb w4 h4 rfl _ w) <|
  heads_cons rfl (head_piece (p := 3) _ 3 rfl (by omega) hb wb w3 h3 rfl _ w) <|
  heads_cons rfl (head_piece (p := 2) _ 2 rfl (by omega) hb wb w2 h2 rfl _ w) <|
  heads_cons rfl (head_piece (p := 1) _ 1 rfl (by omega) hb wb w1 h1 rfl _ w) <|
  heads_cons rfl (head_piece (p := 0) _ 0 rfl (by omega) hb wb w0 h0 rfl _ w) <|
  heads_nil _

/-- The key heads' stores, put together. -/
theorem k_heads (hb : Vec Ideal S512x2048 .bf16) (wb : S2048x4096.Idx → EReal) (w8 w9 w10 w11 : Vec Ideal S2048x256 .bf16)
    (h8 : Slice wb 8 w8) (h9 : Slice wb 9 w9) (h10 : Slice wb 10 w10) (h11 : Slice wb 11 w11) (w : Vec Ideal S1x128 .f32) :
    Heads [(⟨Rect.unit (s := S512x8x128) ![0, 6, 0] ![512, 2, 128] inb_S512x8x128_S512x2x128_0_6_0, k0_pay193 hb w11 w w⟩ : View.Piece (Elt Ideal) S512x8x128 .bf16),
      (⟨Rect.unit (s := S512x8x128) ![0, 4, 0] ![512, 2, 128] inb_S512x8x128_S512x2x128_0_4_0, k0_pay193 hb w10 w w⟩ : View.Piece (Elt Ideal) S512x8x128 .bf16),
      (⟨Rect.unit (s := S512x8x128) ![0, 2, 0] ![512, 2, 128] inb_S512x8x128_S512x2x128_0_2_0, k0_pay193 hb w9 w w⟩ : View.Piece (Elt Ideal) S512x8x128 .bf16),
      (⟨Rect.unit (s := S512x8x128) ![0, 0, 0] ![512, 2, 128] inb_S512x8x128_S512x2x128_0_0_0, k0_pay193 hb w8 w w⟩ : View.Piece (Elt Ideal) S512x8x128 .bf16)]
      (headG 8 2048 (by omega) hb wb w) 8 :=
  heads_cons rfl (head_piece (p := 3) _ 11 rfl (by omega) hb wb w11 h11 rfl _ w) <|
  heads_cons rfl (head_piece (p := 2) _ 10 rfl (by omega) hb wb w10 h10 rfl _ w) <|
  heads_cons rfl (head_piece (p := 1) _ 9 rfl (by omega) hb wb w9 h9 rfl _ w) <|
  heads_cons rfl (head_piece (p := 0) _ 8 rfl (by omega) hb wb w8 h8 rfl _ w) <|
  heads_nil _

/-- The value heads' stores, put together. -/
theorem v_heads (hb : Vec Ideal S512x2048 .bf16) (wb : S2048x4096.Idx → EReal) (w12 w13 w14 w15 : Vec Ideal S2048x256 .bf16)
    (h12 : Slice wb 12 w12) (h13 : Slice wb 13 w13) (h14 : Slice wb 14 w14) (h15 : Slice wb 15 w15) :
    Heads [(⟨Rect.unit (s := S512x8x128) ![0, 6, 0] ![512, 2, 128] inb_S512x8x128_S512x2x128_0_6_0, k0_pay222 hb w15⟩ : View.Piece (Elt Ideal) S512x8x128 .bf16),
      (⟨Rect.unit (s := S512x8x128) ![0, 4, 0] ![512, 2, 128] inb_S512x8x128_S512x2x128_0_4_0, k0_pay222 hb w14⟩ : View.Piece (Elt Ideal) S512x8x128 .bf16),
      (⟨Rect.unit (s := S512x8x128) ![0, 2, 0] ![512, 2, 128] inb_S512x8x128_S512x2x128_0_2_0, k0_pay222 hb w13⟩ : View.Piece (Elt Ideal) S512x8x128 .bf16),
      (⟨Rect.unit (s := S512x8x128) ![0, 0, 0] ![512, 2, 128] inb_S512x8x128_S512x2x128_0_0_0, k0_pay222 hb w12⟩ : View.Piece (Elt Ideal) S512x8x128 .bf16)]
      (valG 8 3072 (by omega) hb wb) 8 :=
  heads_cons rfl (val_piece (p := 3) _ 15 rfl (by omega) hb wb w15 h15 rfl _) <|
  heads_cons rfl (val_piece (p := 2) _ 14 rfl (by omega) hb wb w14 h14 rfl _) <|
  heads_cons rfl (val_piece (p := 1) _ 13 rfl (by omega) hb wb w13 h13 rfl _) <|
  heads_cons rfl (val_piece (p := 0) _ 12 rfl (by omega) hb wb w12 h12 rfl _) <|
  heads_nil _

/-- A box read back from stored pieces. -/
theorem readCov_unit2 {sig : RefSig} {κ : Kind} {sp : Space} {p q m n : ℕ} {e : EltTy} (v : View sig κ sp ⟨2, ![m, n]⟩ e)
    (L : List (View.Piece (Elt Ideal) ⟨2, ![m, n]⟩ e)) (G : Shape.Idx ⟨2, ![m, n]⟩ → Elt Ideal e) (hL : View.canon L = G) (o : Fin 2 → ℕ) (a b : ℕ) (ho : o = ![a, b])
    (hin : ∀ i, o i + (![p, q] : Fin 2 → ℕ) i ≤ (![m, n] : Fin 2 → ℕ) i) (r : Fin p) (l : Fin q) (hr : a + r < m) (hl : b + l < n) :
    v.readCov L (Rect.unit (s := ⟨2, ![m, n]⟩) o ![p, q] hin).toLoadRect (ix2 r l) = G (ix2 ⟨a + r, hr⟩ ⟨b + l, hl⟩) := by
  rw [View.readCov_eq_canon', hL]
  exact congrArg G (emb_piece ho hin r l hr hl)

/-- The same when the box is the whole array. -/
theorem readCov_whole2 {sig : RefSig} {κ : Kind} {sp : Space} {m n : ℕ} {e : EltTy} (v : View sig κ sp ⟨2, ![m, n]⟩ e)
    (L : List (View.Piece (Elt Ideal) ⟨2, ![m, n]⟩ e)) (G : Shape.Idx ⟨2, ![m, n]⟩ → Elt Ideal e) (hL : View.canon L = G)
    (hin : ∀ i, (![0, 0] : Fin 2 → ℕ) i + (![m, n] : Fin 2 → ℕ) i ≤ (![m, n] : Fin 2 → ℕ) i) :
    v.readCov L (Rect.unit (s := ⟨2, ![m, n]⟩) ![0, 0] ![m, n] hin).toLoadRect = G := by
  funext j
  obtain ⟨r, l, rfl⟩ : ∃ r l, j = ix2 r l := ⟨j 0, j 1, by funext i; match i with | 0 => rfl | 1 => rfl⟩
  refine (readCov_unit2 v L G hL _ 0 0 rfl hin r l (by omega) (by omega)).trans (congrArg G ?_)
  funext i
  apply Fin.ext
  match i with
  | 0 => exact Nat.zero_add _
  | 1 => exact Nat.zero_add _

/-- A whole array read from a memref that holds it. -/
theorem readAt_whole2 {sig : RefSig} {sp : Space} {m n : ℕ} {e : EltTy} (a : Memref sig .tc sp ⟨2, ![m, n]⟩ e) (h : a.IsWhole) (x : Vec Ideal ⟨2, ![m, n]⟩ e)
    (hin : ∀ i, (![0, 0] : Fin 2 → ℕ) i + (![m, n] : Fin 2 → ℕ) i ≤ (![m, n] : Fin 2 → ℕ) i) :
    View.readAt (Elt Ideal) a.view (Rect.unit (s := ⟨2, ![m, n]⟩) ![0, 0] ![m, n] hin).toLoadRect (h.unread x) = x := by
  funext j
  obtain ⟨r, l, rfl⟩ : ∃ r l, j = ix2 r l := ⟨j 0, j 1, by funext i; match i with | 0 => rfl | 1 => rfl⟩
  rw [readAt_unit2 _ _ 0 0 rfl _ _ r l (by omega) (by omega), h.read_unread]
  refine congrArg x ?_
  funext i
  apply Fin.ext
  match i with
  | 0 => exact Nat.zero_add _
  | 1 => exact Nat.zero_add _

/-- A slice read from a memref that holds the weights. -/
theorem readAt_slice (a : Memref sig .tc .vmem S2048x4096 .bf16) (h : a.IsWhole) (x : Vec Ideal S2048x4096 .bf16) (n : Fin 16) (o : Fin 2 → ℕ) (ho : o = ![0, 256 * (n : ℕ)])
    (hin : ∀ i, o i + (![2048, 256] : Fin 2 → ℕ) i ≤ (![2048, 4096] : Fin 2 → ℕ) i) :
    Slice x n (View.readAt (Elt Ideal) a.view (Rect.unit (s := S2048x4096) o ![2048, 256] hin).toLoadRect (h.unread x)) := by
  intro d l
  rw [readAt_unit2 _ o _ _ ho hin _ d l (by omega) (by omega), h.read_unread]
  refine congrArg x ?_
  funext i
  apply Fin.ext
  match i with
  | 0 => exact Nat.zero_add _
  | 1 => rfl

/-- A slice read back from the stored weights. -/
theorem readCov_slice {κ : Kind} {sp : Space} (v : View sig κ sp S2048x4096 .bf16) (L : List (View.Piece (Elt Ideal) S2048x4096 .bf16)) (x : S2048x4096.Idx → EReal) (hL : View.canon L = x)
    (n : Fin 16) (o : Fin 2 → ℕ) (ho : o = ![0, 256 * (n : ℕ)])
    (hin : ∀ i, o i + (![2048, 256] : Fin 2 → ℕ) i ≤ (![2048, 4096] : Fin 2 → ℕ) i) :
    Slice x n (v.readCov L (Rect.unit (s := S2048x4096) o ![2048, 256] hin).toLoadRect) := by
  intro d l
  refine (readCov_unit2 v L x hL o _ _ ho hin d l (by omega) (by omega)).trans (congrArg x ?_)
  funext i
  apply Fin.ext
  match i with
  | 0 => exact Nat.zero_add _
  | 1 => rfl

/-- The loops make sixteen trips. -/
theorem trips16 : Scf.trips (0#32) (Scalar.addi 0#32 16#32) 1#32 = 16 := rfl

end Cert.Qkv

end

end
-- ==== Proof.First.lean ====
module

public import proofs.«01_k».proof.Proof.Heads
public import proofs.«01_k».proof.Proof.Gen.KernelIdeal.Frame

@[expose] public section

set_option maxRecDepth 16384

noncomputable section

namespace Cert.Qkv

open Idealize.ShloMosaic Cert.KernelIdeal Cert.KernelIdeal.Gen

/-! The first point's heads. -/

set_option maxHeartbeats 2000000 in
/-- The heads' stores of the first point: the weights are read as it has just widened them. -/
theorem runA_heads (c : Dev nD) (i : grid0.Coords) a1 h1 a2 h2 a3 h3 a4 h4 a5 h5 a6 h6 a7 h7 a8 h8 a9 h9 a10 h10 a11 h11 a12 h12 a13 h13 hz x0 x1 x2 x3 x4 x5
    (hw : ∀ d, max (wRow x2 d) (-(wRow x2 d)) ≤ Ideal.ofBits .f32 2139095039#32) :
    Heads (kernelRun0_A (F := Ideal) c i a1 h1 a2 h2 a3 h3 a4 h4 a5 h5 a6 h6 a7 h7 a8 h8 a9 h9 a10 h10 a11 h11 a12 h12 a13 h13 hz x0 x1 x2 x3 x4 x5).1 (headG 16 0 (by omega) (hbG x1 x2) (wbG x3 x0) x4) 16 ∧
    Heads (kernelRun0_A (F := Ideal) c i a1 h1 a2 h2 a3 h3 a4 h4 a5 h5 a6 h6 a7 h7 a8 h8 a9 h9 a10 h10 a11 h11 a12 h12 a13 h13 hz x0 x1 x2 x3 x4 x5).2.1 (headG 8 2048 (by omega) (hbG x1 x2) (wbG x3 x0) x5) 8 ∧
    Heads (kernelRun0_A (F := Ideal) c i a1 h1 a2 h2 a3 h3 a4 h4 a5 h5 a6 h6 a7 h7 a8 h8 a9 h9 a10 h10 a11 h11 a12 h12 a13 h13 hz x0 x1 x2 x3 x4 x5).2.2.1 (valG 8 3072 (by omega) (hbG x1 x2) (wbG x3 x0)) 8 := by
  have Hb : a13.view.readCov (pb_k0_t2 (F := Ideal) Variants.none c none i a1 h1 a2 h2 a3 h3 a4 h4 a5 h5 a6 h6 a7 h7 a8 h8 a9 h9 a10 h10 a11 h11 a12 h12 a13 h13 (h2.unread x1) (h3.unread x2) 16).2.2 (Rect.unit (s := S512x2048) ![0, 0] ![512, 2048] inb_S512x2048_S512x2048_0_0).toLoadRect = (hbG x1 x2) := by
    have e := (chunks_canon Variants.none c none i a1 h1 a2 h2 a3 h3 a4 h4 a5 h5 a6 h6 a7 h7 a8 h8 a9 h9 a10 h10 a11 h11 a12 h12 a13 h13 (h2.unread x1) (h3.unread x2) (by rw [h3.read_unread]; exact hw)).2.2
    rw [h2.read_unread, h3.read_unread] at e
    exact readCov_whole2 _ _ _ e _
  have e := weights_canon Variants.none c none i a1 h1 a2 h2 a3 h3 a4 h4 a5 h5 a6 h6 a7 h7 a8 h8 a9 h9 a10 h10 a11 h11 a12 h12 a13 h13 hz (h1.unread x0) (h4.unread x3)
  rw [h1.read_unread, h4.read_unread] at e
  have Hs := readCov_slice a12.view _ _ e
  clear e
  have Hq := readAt_whole2 a5 h5 x4 inb_S1x128_S1x128_0_0
  have Hk := readAt_whole2 a6 h6 x5 inb_S1x128_S1x128_0_0
  have S0 := Hs 0 ![0, 0] rfl inb_S2048x4096_S2048x256_0_0
  have S1 := Hs 1 ![0, 256] rfl inb_S2048x4096_S2048x256_0_256
  have S2 := Hs 2 ![0, 512] rfl inb_S2048x4096_S2048x256_0_512
  have S3 := Hs 3 ![0, 768] rfl inb_S2048x4096_S2048x256_0_768
  have S4 := Hs 4 ![0, 1024] rfl inb_S2048x4096_S2048x256_0_1024
  have S5 := Hs 5 ![0, 1280] rfl inb_S2048x4096_S2048x256_0_1280
  have S6 := Hs 6 ![0, 1536] rfl inb_S2048x4096_S2048x256_0_1536
  have S7 := Hs 7 ![0, 1792] rfl inb_S2048x4096_S2048x256_0_1792
  have S8 := Hs 8 ![0, 2048] rfl inb_S2048x4096_S2048x256_0_2048
  have S9 := Hs 9 ![0, 2304] rfl inb_S2048x4096_S2048x256_0_2304
  have S10 := Hs 10 ![0, 2560] rfl inb_S2048x4096_S2048x256_0_2560
  have S11 := Hs 11 ![0, 2816] rfl inb_S2048x4096_S2048x256_0_2816
  have S12 := Hs 12 ![0, 3072] rfl inb_S2048x4096_S2048x256_0_3072
  have S13 := Hs 13 ![0, 3328] rfl inb_S2048x4096_S2048x256_0_3328
  have S14 := Hs 14 ![0, 3584] rfl inb_S2048x4096_S2048x256_0_3584
  have S15 := Hs 15 ![0, 3840] rfl inb_S2048x4096_S2048x256_0_3840
  clear Hs
  unfold kernelRun0_A
  dsimp only
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, trips16]
  generalize a13.view.readCov (pb_k0_t2 (F := Ideal) Variants.none c none i a1 h1 a2 h2 a3 h3 a4 h4 a5 h5 a6 h6 a7 h7 a8 h8 a9 h9 a10 h10 a11 h11 a12 h12 a13 h13 (h2.unread x1) (h3.unread x2) 16).2.2 (Rect.unit (s := S512x2048) ![0, 0] ![512, 2048] inb_S512x2048_S512x2048_0_0).toLoadRect = hb at *
  generalize View.readAt (Elt Ideal) a5.view (Rect.unit (s := S1x128) ![0, 0] ![1, 128] inb_S1x128_S1x128_0_0).toLoadRect (h5.unread x4) = qw at *
  generalize View.readAt (Elt Ideal) a6.view (Rect.unit (s := S1x128) ![0, 0] ![1, 128] inb_S1x128_S1x128_0_0).toLoadRect (h6.unread x5) = kw at *
  generalize a12.view.readCov (pb_k0_t1 (F := Ideal) Variants.none c none i a1 h1 a2 h2 a3 h3 a4 h4 a5 h5 a6 h6 a7 h7 a8 h8 a9 h9 a10 h10 a11 h11 a12 h12 a13 h13 hz (h1.unread x0) (h4.unread x3) 16) (Rect.unit (s := S2048x4096) ![0, 0] ![2048, 256] inb_S2048x4096_S2048x256_0_0).toLoadRect = w0 at *
  generalize a12.view.readCov (pb_k0_t1 (F := Ideal) Variants.none c none i a1 h1 a2 h2 a3 h3 a4 h4 a5 h5 a6 h6 a7 h7 a8 h8 a9 h9 a10 h10 a11 h11 a12 h12 a13 h13 hz (h1.unread x0) (h4.unread x3) 16) (Rect.unit (s := S2048x4096) ![0, 256] ![2048, 256] inb_S2048x4096_S2048x256_0_256).toLoadRect = w1 at *
  generalize a12.view.readCov (pb_k0_t1 (F := Ideal) Variants.none c none i a1 h1 a2 h2 a3 h3 a4 h4 a5 h5 a6 h6 a7 h7 a8 h8 a9 h9 a10 h10 a11 h11 a12 h12 a13 h13 hz (h1.unread x0) (h4.unread x3) 16) (Rect.unit (s := S2048x4096) ![0, 512] ![2048, 256] inb_S2048x4096_S2048x256_0_512).toLoadRect = w2 at *
  generalize a12.view.readCov (pb_k0_t1 (F := Ideal) Variants.none c none i a1 h1 a2 h2 a3 h3 a4 h4 a5 h5 a6 h6 a7 h7 a8 h8 a9 h9 a10 h10 a11 h11 a12 h12 a13 h13 hz (h1.unread x0) (h4.unread x3) 16) (Rect.unit (s := S2048x4096) ![0, 768] ![2048, 256] inb_S2048x4096_S2048x256_0_768).toLoadRect = w3 at *
  generalize a12.view.readCov (pb_k0_t1 (F := Ideal) Variants.none c none i a1 h1 a2 h2 a3 h3 a4 h4 a5 h5 a6 h6 a7 h7 a8 h8 a9 h9 a10 h10 a11 h11 a12 h12 a13 h13 hz (h1.unread x0) (h4.unread x3) 16) (Rect.unit (s := S2048x4096) ![0, 1024] ![2048, 256] inb_S2048x4096_S2048x256_0_1024).toLoadRect = w4 at *
  generalize a12.view.readCov (pb_k0_t1 (F := Ideal) Variants.none c none i a1 h1 a2 h2 a3 h3 a4 h4 a5 h5 a6 h6 a7 h7 a8 h8 a9 h9 a10 h10 a11 h11 a12 h12 a13 h13 hz (h1.unread x0) (h4.unread x3) 16) (Rect.unit (s := S2048x4096) ![0, 1280] ![2048, 256] inb_S2048x4096_S2048x256_0_1280).toLoadRect = w5 at *
  generalize a12.view.readCov (pb_k0_t1 (F := Ideal) Variants.none c none i a1 h1 a2 h2 a3 h3 a4 h4 a5 h5 a6 h6 a7 h7 a8 h8 a9 h9 a10 h10 a11 h11 a12 h12 a13 h13 hz (h1.unread x0) (h4.unread x3) 16) (Rect.unit (s := S2048x4096) ![0, 1536] ![2048, 256] inb_S2048x4096_S2048x256_0_1536).toLoadRect = w6 at *
  generalize a12.view.readCov (pb_k0_t1 (F := Ideal) Variants.none c none i a1 h1 a2 h2 a3 h3 a4 h4 a5 h5 a6 h6 a7 h7 a8 h8 a9 h9 a10 h10 a11 h11 a12 h12 a13 h13 hz (h1.unread x0) (h4.unread x3) 16) (Rect.unit (s := S2048x4096) ![0, 1792] ![2048, 256] inb_S2048x4096_S2048x256_0_1792).toLoadRect = w7 at *
  generalize a12.view.readCov (pb_k0_t1 (F := Ideal) Variants.none c none i a1 h1 a2 h2 a3 h3 a4 h4 a5 h5 a6 h6 a7 h7 a8 h8 a9 h9 a10 h10 a11 h11 a12 h12 a13 h13 hz (h1.unread x0) (h4.unread x3) 16) (Rect.unit (s := S2048x4096) ![0, 2048] ![2048, 256] inb_S2048x4096_S2048x256_0_2048).toLoadRect = w8 at *
  generalize a12.view.readCov (pb_k0_t1 (F := Ideal) Variants.none c none i a1 h1 a2 h2 a3 h3 a4 h4 a5 h5 a6 h6 a7 h7 a8 h8 a9 h9 a10 h10 a11 h11 a12 h12 a13 h13 hz (h1.unread x0) (h4.unread x3) 16) (Rect.unit (s := S2048x4096) ![0, 2304] ![2048, 256] inb_S2048x4096_S2048x256_0_2304).toLoadRect = w9 at *
  generalize a12.view.readCov (pb_k0_t1 (F := Ideal) Variants.none c none i a1 h1 a2 h2 a3 h3 a4 h4 a5 h5 a6 h6 a7 h7 a8 h8 a9 h9 a10 h10 a11 h11 a12 h12 a13 h13 hz (h1.unread x0) (h4.unread x3) 16) (Rect.unit (s := S2048x4096) ![0, 2560] ![2048, 256] inb_S2048x4096_S2048x256_0_2560).toLoadRect = w10 at *
  generalize a12.view.readCov (pb_k0_t1 (F := Ideal) Variants.none c none i a1 h1 a2 h2 a3 h3 a4 h4 a5 h5 a6 h6 a7 h7 a8 h8 a9 h9 a10 h10 a11 h11 a12 h12 a13 h13 hz (h1.unread x0) (h4.unread x3) 16) (Rect.unit (s := S2048x4096) ![0, 2816] ![2048, 256] inb_S2048x4096_S2048x256_0_2816).toLoadRect = w11 at *
  generalize a12.view.readCov (pb_k0_t1 (F := Ideal) Variants.none c none i a1 h1 a2 h2 a3 h3 a4 h4 a5 h5 a6 h6 a7 h7 a8 h8 a9 h9 a10 h10 a11 h11 a12 h12 a13 h13 hz (h1.unread x0) (h4.unread x3) 16) (Rect.unit (s := S2048x4096) ![0, 3072] ![2048, 256] inb_S2048x4096_S2048x256_0_3072).toLoadRect = w12 at *
  generalize a12.view.readCov (pb_k0_t1 (F := Ideal) Variants.none c none i a1 h1 a2 h2 a3 h3 a4 h4 a5 h5 a6 h6 a7 h7 a8 h8 a9 h9 a10 h10 a11 h11 a12 h12 a13 h13 hz (h1.unread x0) (h4.unread x3) 16) (Rect.unit (s := S2048x4096) ![0, 3328] ![2048, 256] inb_S2048x4096_S2048x256_0_3328).toLoadRect = w13 at *
  generalize a12.view.readCov (pb_k0_t1 (F := Ideal) Variants.none c none i a1 h1 a2 h2 a3 h3 a4 h4 a5 h5 a6 h6 a7 h7 a8 h8 a9 h9 a10 h10 a11 h11 a12 h12 a13 h13 hz (h1.unread x0) (h4.unread x3) 16) (Rect.unit (s := S2048x4096) ![0, 3584] ![2048, 256] inb_S2048x4096_S2048x256_0_3584).toLoadRect = w14 at *
  generalize a12.view.readCov (pb_k0_t1 (F := Ideal) Variants.none c none i a1 h1 a2 h2 a3 h3 a4 h4 a5 h5 a6 h6 a7 h7 a8 h8 a9 h9 a10 h10 a11 h11 a12 h12 a13 h13 hz (h1.unread x0) (h4.unread x3) 16) (Rect.unit (s := S2048x4096) ![0, 3840] ![2048, 256] inb_S2048x4096_S2048x256_0_3840).toLoadRect = w15 at *
  subst Hb Hq Hk
  exact ⟨q_heads _ _ _ _ _ _ _ _ _ _ S0 S1 S2 S3 S4 S5 S6 S7 _, k_heads _ _ _ _ _ _ S8 S9 S10 S11 _, v_heads _ _ _ _ _ _ S12 S13 S14 S15⟩

end Cert.Qkv

end

end
-- ==== Proof.Later.lean ====
module

public import proofs.«01_k».proof.Proof.Heads
public import proofs.«01_k».proof.Proof.Gen.KernelIdeal.Frame

@[expose] public section

set_option maxRecDepth 16384

noncomputable section

namespace Cert.Qkv

open Idealize.ShloMosaic Cert.KernelIdeal Cert.KernelIdeal.Gen

/-! A later point's heads. -/

set_option maxHeartbeats 2000000 in
/-- The heads' stores of a later point: the weights are read from the scratch. -/
theorem runB_heads (c : Dev nD) (i : grid0.Coords) a1 h1 a2 h2 a3 h3 a4 h4 a5 h5 a6 h6 a7 h7 a8 h8 a9 h9 a10 h10 a11 h11 a12 h12 a13 h13 hz x0 x1 x2 x3 x4 x5 xs
    (hw : ∀ d, max (wRow x2 d) (-(wRow x2 d)) ≤ Ideal.ofBits .f32 2139095039#32) :
    Heads (kernelRun0_B (F := Ideal) c i a1 h1 a2 h2 a3 h3 a4 h4 a5 h5 a6 h6 a7 h7 a8 h8 a9 h9 a10 h10 a11 h11 a12 h12 a13 h13 hz x0 x1 x2 x3 x4 x5 xs).1 (headG 16 0 (by omega) (hbG x1 x2) xs x4) 16 ∧
    Heads (kernelRun0_B (F := Ideal) c i a1 h1 a2 h2 a3 h3 a4 h4 a5 h5 a6 h6 a7 h7 a8 h8 a9 h9 a10 h10 a11 h11 a12 h12 a13 h13 hz x0 x1 x2 x3 x4 x5 xs).2.1 (headG 8 2048 (by omega) (hbG x1 x2) xs x5) 8 ∧
    Heads (kernelRun0_B (F := Ideal) c i a1 h1 a2 h2 a3 h3 a4 h4 a5 h5 a6 h6 a7 h7 a8 h8 a9 h9 a10 h10 a11 h11 a12 h12 a13 h13 hz x0 x1 x2 x3 x4 x5 xs).2.2.1 (valG 8 3072 (by omega) (hbG x1 x2) xs) 8 := by
  have Hb : a13.view.readCov (pb_k0_t2 (F := Ideal) Variants.none c none i a1 h1 a2 h2 a3 h3 a4 h4 a5 h5 a6 h6 a7 h7 a8 h8 a9 h9 a10 h10 a11 h11 a12 h12 a13 h13 (h2.unread x1) (h3.unread x2) 16).2.2 (Rect.unit (s := S512x2048) ![0, 0] ![512, 2048] inb_S512x2048_S512x2048_0_0).toLoadRect = (hbG x1 x2) := by
    have e := (chunks_canon Variants.none c none i a1 h1 a2 h2 a3 h3 a4 h4 a5 h5 a6 h6 a7 h7 a8 h8 a9 h9 a10 h10 a11 h11 a12 h12 a13 h13 (h2.unread x1) (h3.unread x2) (by rw [h3.read_unread]; exact hw)).2.2
    rw [h2.read_unread, h3.read_unread] at e
    exact readCov_whole2 _ _ _ e _
  have Hs := readAt_slice a12 h12 xs
  have Hq := readAt_whole2 a5 h5 x4 inb_S1x128_S1x128_0_0
  have Hk := readAt_whole2 a6 h6 x5 inb_S1x128_S1x128_0_0
  have S0 := Hs 0 ![0, 0] rfl inb_S2048x4096_S2048x256_0_0
  have S1 := Hs 1 ![0, 256] rfl inb_S2048x4096_S2048x256_0_256
  have S2 := Hs 2 ![0, 512] rfl inb_S2048x4096_S2048x256_0_512
  have S3 := Hs 3 ![0, 768] rfl inb_S2048x4096_S2048x256_0_768
  have S4 := Hs 4 ![0, 1024] rfl inb_S2048x4096_S2048x256_0_1024
  have S5 := Hs 5 ![0, 1280] rfl inb_S2048x4096_S2048x256_0_1280
  have S6 := Hs 6 ![0, 1536] rfl inb_S2048x4096_S2048x256_0_1536
  have S7 := Hs 7 ![0, 1792] rfl inb_S2048x4096_S2048x256_0_1792
  have S8 := Hs 8 ![0, 2048] rfl inb_S2048x4096_S2048x256_0_2048
  have S9 := Hs 9 ![0, 2304] rfl inb_S2048x4096_S2048x256_0_2304
  have S10 := Hs 10 ![0, 2560] rfl inb_S2048x4096_S2048x256_0_2560
  have S11 := Hs 11 ![0, 2816] rfl inb_S2048x4096_S2048x256_0_2816
  have S12 := Hs 12 ![0, 3072] rfl inb_S2048x4096_S2048x256_0_3072
  have S13 := Hs 13 ![0, 3328] rfl inb_S2048x4096_S2048x256_0_3328
  have S14 := Hs 14 ![0, 3584] rfl inb_S2048x4096_S2048x256_0_3584
  have S15 := Hs 15 ![0, 3840] rfl inb_S2048x4096_S2048x256_0_3840
  clear Hs
  unfold kernelRun0_B
  dsimp only
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, trips16]
  generalize a13.view.readCov (pb_k0_t2 (F := Ideal) Variants.none c none i a1 h1 a2 h2 a3 h3 a4 h4 a5 h5 a6 h6 a7 h7 a8 h8 a9 h9 a10 h10 a11 h11 a12 h12 a13 h13 (h2.unread x1) (h3.unread x2) 16).2.2 (Rect.unit (s := S512x2048) ![0, 0] ![512, 2048] inb_S512x2048_S512x2048_0_0).toLoadRect = hb at *
  generalize View.readAt (Elt Ideal) a5.view (Rect.unit (s := S1x128) ![0, 0] ![1, 128] inb_S1x128_S1x128_0_0).toLoadRect (h5.unread x4) = qw at *
  generalize View.readAt (Elt Ideal) a6.view (Rect.unit (s := S1x128) ![0, 0] ![1, 128] inb_S1x128_S1x128_0_0).toLoadRect (h6.unread x5) = kw at *
  generalize View.readAt (Elt Ideal) a12.view (Rect.unit (s := S2048x4096) ![0, 0] ![2048, 256] inb_S2048x4096_S2048x256_0_0).toLoadRect (h12.unread xs) = w0 at *
  generalize View.readAt (Elt Ideal) a12.view (Rect.unit (s := S2048x4096) ![0, 256] ![2048, 256] inb_S2048x4096_S2048x256_0_256).toLoadRect (h12.unread xs) = w1 at *
  generalize View.readAt (Elt Ideal) a12.view (Rect.unit (s := S2048x4096) ![0, 512] ![2048, 256] inb_S2048x4096_S2048x256_0_512).toLoadRect (h12.unread xs) = w2 at *
  generalize View.readAt (Elt Ideal) a12.view (Rect.unit (s := S2048x4096) ![0, 768] ![2048, 256] inb_S2048x4096_S2048x256_0_768).toLoadRect (h12.unread xs) = w3 at *
  generalize View.readAt (Elt Ideal) a12.view (Rect.unit (s := S2048x4096) ![0, 1024] ![2048, 256] inb_S2048x4096_S2048x256_0_1024).toLoadRect (h12.unread xs) = w4 at *
  generalize View.readAt (Elt Ideal) a12.view (Rect.unit (s := S2048x4096) ![0, 1280] ![2048, 256] inb_S2048x4096_S2048x256_0_1280).toLoadRect (h12.unread xs) = w5 at *
  generalize View.readAt (Elt Ideal) a12.view (Rect.unit (s := S2048x4096) ![0, 1536] ![2048, 256] inb_S2048x4096_S2048x256_0_1536).toLoadRect (h12.unread xs) = w6 at *
  generalize View.readAt (Elt Ideal) a12.view (Rect.unit (s := S2048x4096) ![0, 1792] ![2048, 256] inb_S2048x4096_S2048x256_0_1792).toLoadRect (h12.unread xs) = w7 at *
  generalize View.readAt (Elt Ideal) a12.view (Rect.unit (s := S2048x4096) ![0, 2048] ![2048, 256] inb_S2048x4096_S2048x256_0_2048).toLoadRect (h12.unread xs) = w8 at *
  generalize View.readAt (Elt Ideal) a12.view (Rect.unit (s := S2048x4096) ![0, 2304] ![2048, 256] inb_S2048x4096_S2048x256_0_2304).toLoadRect (h12.unread xs) = w9 at *
  generalize View.readAt (Elt Ideal) a12.view (Rect.unit (s := S2048x4096) ![0, 2560] ![2048, 256] inb_S2048x4096_S2048x256_0_2560).toLoadRect (h12.unread xs) = w10 at *
  generalize View.readAt (Elt Ideal) a12.view (Rect.unit (s := S2048x4096) ![0, 2816] ![2048, 256] inb_S2048x4096_S2048x256_0_2816).toLoadRect (h12.unread xs) = w11 at *
  generalize View.readAt (Elt Ideal) a12.view (Rect.unit (s := S2048x4096) ![0, 3072] ![2048, 256] inb_S2048x4096_S2048x256_0_3072).toLoadRect (h12.unread xs) = w12 at *
  generalize View.readAt (Elt Ideal) a12.view (Rect.unit (s := S2048x4096) ![0, 3328] ![2048, 256] inb_S2048x4096_S2048x256_0_3328).toLoadRect (h12.unread xs) = w13 at *
  generalize View.readAt (Elt Ideal) a12.view (Rect.unit (s := S2048x4096) ![0, 3584] ![2048, 256] inb_S2048x4096_S2048x256_0_3584).toLoadRect (h12.unread xs) = w14 at *
  generalize View.readAt (Elt Ideal) a12.view (Rect.unit (s := S2048x4096) ![0, 3840] ![2048, 256] inb_S2048x4096_S2048x256_0_3840).toLoadRect (h12.unread xs) = w15 at *
  subst Hb Hq Hk
  exact ⟨q_heads _ _ _ _ _ _ _ _ _ _ S0 S1 S2 S3 S4 S5 S6 S7 _, k_heads _ _ _ _ _ _ S8 S9 S10 S11 _, v_heads _ _ _ _ _ _ S12 S13 S14 S15⟩

end Cert.Qkv

end

end
-- ==== Proof.Outs.lean ====
module

public import proofs.«01_k».proof.Proof.First
public import proofs.«01_k».proof.Proof.Later

@[expose] public section

set_option maxRecDepth 16384

noncomputable section

namespace Cert.Qkv

open Idealize.ShloMosaic Cert.KernelIdeal Cert.KernelIdeal.Gen

/-! What a grid point leaves in the output blocks and in the weights' scratch, as one tuple. -/

/-- The six arrays of a grid point: three groups of heads, codes, scales, widened weights. -/
def pointG (x : S512x2048.Idx → EReal) (w : S1x2048.Idx → EReal) (wb : S2048x4096.Idx → EReal) (qw kw : S1x128.Idx → EReal) :
    Vec Ideal S512x16x128 .bf16 × Vec Ideal S512x8x128 .bf16 × Vec Ideal S512x8x128 .bf16 × Vec Ideal S512x2048 .fp8e4m3 × Vec Ideal S512x16 .f32 × Vec Ideal S2048x4096 .bf16 :=
  (headG 16 0 (by omega) (hbG x w) wb qw, headG 8 2048 (by omega) (hbG x w) wb kw, valG 8 3072 (by omega) (hbG x w) wb, codesG x w, scaleG x w, wb)

/-- The codes, scales and weights stored by the first point. -/
theorem runA_loops (c : Dev nD) (i : grid0.Coords) a1 h1 a2 h2 a3 h3 a4 h4 a5 h5 a6 h6 a7 h7 a8 h8 a9 h9 a10 h10 a11 h11 a12 h12 a13 h13 hz x0 x1 x2 x3 x4 x5 :
    (kernelRun0_A (F := Ideal) c i a1 h1 a2 h2 a3 h3 a4 h4 a5 h5 a6 h6 a7 h7 a8 h8 a9 h9 a10 h10 a11 h11 a12 h12 a13 h13 hz x0 x1 x2 x3 x4 x5).2.2.2.1 = (pb_k0_t2 (F := Ideal) Variants.none c none i a1 h1 a2 h2 a3 h3 a4 h4 a5 h5 a6 h6 a7 h7 a8 h8 a9 h9 a10 h10 a11 h11 a12 h12 a13 h13 (h2.unread x1) (h3.unread x2) 16).1 ∧
    (kernelRun0_A (F := Ideal) c i a1 h1 a2 h2 a3 h3 a4 h4 a5 h5 a6 h6 a7 h7 a8 h8 a9 h9 a10 h10 a11 h11 a12 h12 a13 h13 hz x0 x1 x2 x3 x4 x5).2.2.2.2.1 = (pb_k0_t2 (F := Ideal) Variants.none c none i a1 h1 a2 h2 a3 h3 a4 h4 a5 h5 a6 h6 a7 h7 a8 h8 a9 h9 a10 h10 a11 h11 a12 h12 a13 h13 (h2.unread x1) (h3.unread x2) 16).2.1 ∧
    (kernelRun0_A (F := Ideal) c i a1 h1 a2 h2 a3 h3 a4 h4 a5 h5 a6 h6 a7 h7 a8 h8 a9 h9 a10 h10 a11 h11 a12 h12 a13 h13 hz x0 x1 x2 x3 x4 x5).2.2.2.2.2.1 = pb_k0_t1 (F := Ideal) Variants.none c none i a1 h1 a2 h2 a3 h3 a4 h4 a5 h5 a6 h6 a7 h7 a8 h8 a9 h9 a10 h10 a11 h11 a12 h12 a13 h13 hz (h1.unread x0) (h4.unread x3) 16 := by
  unfold kernelRun0_A
  dsimp only
  simp only [trips16]
  exact ⟨trivial, trivial, trivial⟩

/-- What the first point leaves. -/
theorem outA_eq (c : Dev nD) (i : grid0.Coords) a1 h1 a2 h2 a3 h3 a4 h4 a5 h5 a6 h6 a7 h7 a8 h8 a9 h9 a10 h10 a11 h11 a12 h12 a13 h13 hz x0 x1 x2 x3 x4 x5
    (hw : ∀ d, max (wRow x2 d) (-(wRow x2 d)) ≤ Ideal.ofBits .f32 2139095039#32) :
    ((out0_A_6 c i a1 h1 a2 h2 a3 h3 a4 h4 a5 h5 a6 h6 a7 h7 a8 h8 a9 h9 a10 h10 a11 h11 a12 h12 a13 h13 hz x0 x1 x2 x3 x4 x5, out0_A_7 c i a1 h1 a2 h2 a3 h3 a4 h4 a5 h5 a6 h6 a7 h7 a8 h8 a9 h9 a10 h10 a11 h11 a12 h12 a13 h13 hz x0 x1 x2 x3 x4 x5, out0_A_8 c i a1 h1 a2 h2 a3 h3 a4 h4 a5 h5 a6 h6 a7 h7 a8 h8 a9 h9 a10 h10 a11 h11 a12 h12 a13 h13 hz x0 x1 x2 x3 x4 x5, out0_A_9 c i a1 h1 a2 h2 a3 h3 a4 h4 a5 h5 a6 h6 a7 h7 a8 h8 a9 h9 a10 h10 a11 h11 a12 h12 a13 h13 hz x0 x1 x2 x3 x4 x5, out0_A_10 c i a1 h1 a2 h2 a3 h3 a4 h4 a5 h5 a6 h6 a7 h7 a8 h8 a9 h9 a10 h10 a11 h11 a12 h12 a13 h13 hz x0 x1 x2 x3 x4 x5, sout0_A_0 c i a1 h1 a2 h2 a3 h3 a4 h4 a5 h5 a6 h6 a7 h7 a8 h8 a9 h9 a10 h10 a11 h11 a12 h12 a13 h13 hz x0 x1 x2 x3 x4 x5) :
      Vec Ideal S512x16x128 .bf16 × Vec Ideal S512x8x128 .bf16 × Vec Ideal S512x8x128 .bf16 × Vec Ideal S512x2048 .fp8e4m3 × Vec Ideal S512x16 .f32 × Vec Ideal S2048x4096 .bf16) =
    pointG x1 x2 (wbG x3 x0) x4 x5 := by
  have H := runA_heads c i a1 h1 a2 h2 a3 h3 a4 h4 a5 h5 a6 h6 a7 h7 a8 h8 a9 h9 a10 h10 a11 h11 a12 h12 a13 h13 hz x0 x1 x2 x3 x4 x5 hw
  have L := runA_loops c i a1 h1 a2 h2 a3 h3 a4 h4 a5 h5 a6 h6 a7 h7 a8 h8 a9 h9 a10 h10 a11 h11 a12 h12 a13 h13 hz x0 x1 x2 x3 x4 x5
  have e := chunks_canon Variants.none c none i a1 h1 a2 h2 a3 h3 a4 h4 a5 h5 a6 h6 a7 h7 a8 h8 a9 h9 a10 h10 a11 h11 a12 h12 a13 h13 (h2.unread x1) (h3.unread x2) (by rw [h3.read_unread]; exact hw)
  rw [h2.read_unread, h3.read_unread] at e
  have e6 : out0_A_6 c i a1 h1 a2 h2 a3 h3 a4 h4 a5 h5 a6 h6 a7 h7 a8 h8 a9 h9 a10 h10 a11 h11 a12 h12 a13 h13 hz x0 x1 x2 x3 x4 x5 = headG 16 0 (by omega) (hbG x1 x2) (wbG x3 x0) x4 := by
    unfold out0_A_6
    rw [View.read_writes_junk_eq_canon]
    exact canon_of_heads H.1
  have e7 : out0_A_7 c i a1 h1 a2 h2 a3 h3 a4 h4 a5 h5 a6 h6 a7 h7 a8 h8 a9 h9 a10 h10 a11 h11 a12 h12 a13 h13 hz x0 x1 x2 x3 x4 x5 = headG 8 2048 (by omega) (hbG x1 x2) (wbG x3 x0) x5 := by
    unfold out0_A_7
    rw [View.read_writes_junk_eq_canon]
    exact canon_of_heads H.2.1
  have e8 : out0_A_8 c i a1 h1 a2 h2 a3 h3 a4 h4 a5 h5 a6 h6 a7 h7 a8 h8 a9 h9 a10 h10 a11 h11 a12 h12 a13 h13 hz x0 x1 x2 x3 x4 x5 = valG 8 3072 (by omega) (hbG x1 x2) (wbG x3 x0) := by
    unfold out0_A_8
    rw [View.read_writes_junk_eq_canon]
    exact canon_of_heads H.2.2
  have e9 : out0_A_9 c i a1 h1 a2 h2 a3 h3 a4 h4 a5 h5 a6 h6 a7 h7 a8 h8 a9 h9 a10 h10 a11 h11 a12 h12 a13 h13 hz x0 x1 x2 x3 x4 x5 = codesG x1 x2 := by
    unfold out0_A_9
    rw [View.read_writes_junk_eq_canon]
    exact (congrArg View.canon L.1).trans e.1
  have e10 : out0_A_10 c i a1 h1 a2 h2 a3 h3 a4 h4 a5 h5 a6 h6 a7 h7 a8 h8 a9 h9 a10 h10 a11 h11 a12 h12 a13 h13 hz x0 x1 x2 x3 x4 x5 = scaleG x1 x2 := by
    unfold out0_A_10
    rw [View.read_writes_junk_eq_canon]
    exact (congrArg View.canon L.2.1).trans e.2.1
  have es : sout0_A_0 c i a1 h1 a2 h2 a3 h3 a4 h4 a5 h5 a6 h6 a7 h7 a8 h8 a9 h9 a10 h10 a11 h11 a12 h12 a13 h13 hz x0 x1 x2 x3 x4 x5 = wbG x3 x0 := by
    unfold sout0_A_0
    rw [View.read_writes_junk_eq_canon, L.2.2, weights_canon, h1.read_unread, h4.read_unread]
  rw [e6, e7, e8, e9, e10, es]
  rfl

/-- The codes, scales and weights stored by a later point, over the weights it finds. -/
theorem runB_loops (c : Dev nD) (i : grid0.Coords) a1 h1 a2 h2 a3 h3 a4 h4 a5 h5 a6 h6 a7 h7 a8 h8 a9 h9 a10 h10 a11 h11 a12 h12 a13 h13 hz x0 x1 x2 x3 x4 x5 xs :
    (kernelRun0_B (F := Ideal) c i a1 h1 a2 h2 a3 h3 a4 h4 a5 h5 a6 h6 a7 h7 a8 h8 a9 h9 a10 h10 a11 h11 a12 h12 a13 h13 hz x0 x1 x2 x3 x4 x5 xs).2.2.2.1 = (pb_k0_t2 (F := Ideal) Variants.none c none i a1 h1 a2 h2 a3 h3 a4 h4 a5 h5 a6 h6 a7 h7 a8 h8 a9 h9 a10 h10 a11 h11 a12 h12 a13 h13 (h2.unread x1) (h3.unread x2) 16).1 ∧
    (kernelRun0_B (F := Ideal) c i a1 h1 a2 h2 a3 h3 a4 h4 a5 h5 a6 h6 a7 h7 a8 h8 a9 h9 a10 h10 a11 h11 a12 h12 a13 h13 hz x0 x1 x2 x3 x4 x5 xs).2.2.2.2.1 = (pb_k0_t2 (F := Ideal) Variants.none c none i a1 h1 a2 h2 a3 h3 a4 h4 a5 h5 a6 h6 a7 h7 a8 h8 a9 h9 a10 h10 a11 h11 a12 h12 a13 h13 (h2.unread x1) (h3.unread x2) 16).2.1 := by
  unfold kernelRun0_B
  dsimp only
  simp only [trips16]
  exact ⟨trivial, trivial⟩

/-- What a later point, over the weights it finds leaves. -/
theorem outB_eq (c : Dev nD) (i : grid0.Coords) a1 h1 a2 h2 a3 h3 a4 h4 a5 h5 a6 h6 a7 h7 a8 h8 a9 h9 a10 h10 a11 h11 a12 h12 a13 h13 hz x0 x1 x2 x3 x4 x5 xs
    (hw : ∀ d, max (wRow x2 d) (-(wRow x2 d)) ≤ Ideal.ofBits .f32 2139095039#32) :
    ((out0_B_6 c i a1 h1 a2 h2 a3 h3 a4 h4 a5 h5 a6 h6 a7 h7 a8 h8 a9 h9 a10 h10 a11 h11 a12 h12 a13 h13 hz x0 x1 x2 x3 x4 x5 xs, out0_B_7 c i a1 h1 a2 h2 a3 h3 a4 h4 a5 h5 a6 h6 a7 h7 a8 h8 a9 h9 a10 h10 a11 h11 a12 h12 a13 h13 hz x0 x1 x2 x3 x4 x5 xs, out0_B_8 c i a1 h1 a2 h2 a3 h3 a4 h4 a5 h5 a6 h6 a7 h7 a8 h8 a9 h9 a10 h10 a11 h11 a12 h12 a13 h13 hz x0 x1 x2 x3 x4 x5 xs, out0_B_9 c i a1 h1 a2 h2 a3 h3 a4 h4 a5 h5 a6 h6 a7 h7 a8 h8 a9 h9 a10 h10 a11 h11 a12 h12 a13 h13 hz x0 x1 x2 x3 x4 x5 xs, out0_B_10 c i a1 h1 a2 h2 a3 h3 a4 h4 a5 h5 a6 h6 a7 h7 a8 h8 a9 h9 a10 h10 a11 h11 a12 h12 a13 h13 hz x0 x1 x2 x3 x4 x5 xs, sout0_B_0 c i a1 h1 a2 h2 a3 h3 a4 h4 a5 h5 a6 h6 a7 h7 a8 h8 a9 h9 a10 h10 a11 h11 a12 h12 a13 h13 hz x0 x1 x2 x3 x4 x5 xs) :
      Vec Ideal S512x16x128 .bf16 × Vec Ideal S512x8x128 .bf16 × Vec Ideal S512x8x128 .bf16 × Vec Ideal S512x2048 .fp8e4m3 × Vec Ideal S512x16 .f32 × Vec Ideal S2048x4096 .bf16) =
    pointG x1 x2 xs x4 x5 := by
  have H := runB_heads c i a1 h1 a2 h2 a3 h3 a4 h4 a5 h5 a6 h6 a7 h7 a8 h8 a9 h9 a10 h10 a11 h11 a12 h12 a13 h13 hz x0 x1 x2 x3 x4 x5 xs hw
  have L := runB_loops c i a1 h1 a2 h2 a3 h3 a4 h4 a5 h5 a6 h6 a7 h7 a8 h8 a9 h9 a10 h10 a11 h11 a12 h12 a13 h13 hz x0 x1 x2 x3 x4 x5 xs
  have e := chunks_canon Variants.none c none i a1 h1 a2 h2 a3 h3 a4 h4 a5 h5 a6 h6 a7 h7 a8 h8 a9 h9 a10 h10 a11 h11 a12 h12 a13 h13 (h2.unread x1) (h3.unread x2) (by rw [h3.read_unread]; exact hw)
  rw [h2.read_unread, h3.read_unread] at e
  have e6 : out0_B_6 c i a1 h1 a2 h2 a3 h3 a4 h4 a5 h5 a6 h6 a7 h7 a8 h8 a9 h9 a10 h10 a11 h11 a12 h12 a13 h13 hz x0 x1 x2 x3 x4 x5 xs = headG 16 0 (by omega) (hbG x1 x2) xs x4 := by
    unfold out0_B_6
    rw [View.read_writes_junk_eq_canon]
    exact canon_of_heads H.1
  have e7 : out0_B_7 c i a1 h1 a2 h2 a3 h3 a4 h4 a5 h5 a6 h6 a7 h7 a8 h8 a9 h9 a10 h10 a11 h11 a12 h12 a13 h13 hz x0 x1 x2 x3 x4 x5 xs = headG 8 2048 (by omega) (hbG x1 x2) xs x5 := by
    unfold out0_B_7
    rw [View.read_writes_junk_eq_canon]
    exact canon_of_heads H.2.1
  have e8 : out0_B_8 c i a1 h1 a2 h2 a3 h3 a4 h4 a5 h5 a6 h6 a7 h7 a8 h8 a9 h9 a10 h10 a11 h11 a12 h12 a13 h13 hz x0 x1 x2 x3 x4 x5 xs = valG 8 3072 (by omega) (hbG x1 x2) xs := by
    unfold out0_B_8
    rw [View.read_writes_junk_eq_canon]
    exact canon_of_heads H.2.2
  have e9 : out0_B_9 c i a1 h1 a2 h2 a3 h3 a4 h4 a5 h5 a6 h6 a7 h7 a8 h8 a9 h9 a10 h10 a11 h11 a12 h12 a13 h13 hz x0 x1 x2 x3 x4 x5 xs = codesG x1 x2 := by
    unfold out0_B_9
    rw [View.read_writes_junk_eq_canon]
    exact (congrArg View.canon L.1).trans e.1
  have e10 : out0_B_10 c i a1 h1 a2 h2 a3 h3 a4 h4 a5 h5 a6 h6 a7 h7 a8 h8 a9 h9 a10 h10 a11 h11 a12 h12 a13 h13 hz x0 x1 x2 x3 x4 x5 xs = scaleG x1 x2 := by
    unfold out0_B_10
    rw [View.read_writes_junk_eq_canon]
    exact (congrArg View.canon L.2).trans e.2.1
  rw [e6, e7, e8, e9, e10]
  rfl

end Cert.Qkv

end

end
-- ==== Proof.Arrays.lean ====
module

public import proofs.«01_k».proof.Proof.Outs
public import proofs.«01_k».proof.Proof.Gen.KernelIdeal.Value

@[expose] public section

set_option maxRecDepth 16384

noncomputable section

namespace Cert.Qkv

open Idealize.ShloMosaic Idealize.ShloMosaic.TcCoe Cert.KernelIdeal Cert.KernelIdeal.Gen Cert.KernelIdeal.Value

/-! The five result arrays of the whole grid. -/

/-- Codes, scales and products' rows of all 36864 rows. -/
def codesF (x : S36864x2048.Idx → EReal) (w : S1x2048.Idx → EReal) : S36864x2048.Idx → EReal :=
  fun y => codeRow (fun d => x (ix2 (y 0) d)) (wRow w) (y 1)

/-- All scales, from the rows `x` and the norm weights `w`. -/
def scaleF (x : S36864x2048.Idx → EReal) (w : S1x2048.Idx → EReal) : S36864x16.Idx → EReal :=
  fun y => scaleRow (fun d => x (ix2 (y 0) d)) (wRow w) (y 1)

/-- All rows as the product reads them. -/
def hbF (x : S36864x2048.Idx → EReal) (w : S1x2048.Idx → EReal) : S36864x2048.Idx → EReal :=
  fun y => hbRow (fun d => x (ix2 (y 0) d)) (wRow w) (y 1)

variable (m : (ℓ : Loc nD τ sig) → Buf (Elt Ideal) ℓ) (c : Dev nD)

/-- Where each input window's block lies. -/
theorem widx : ∀ t : Fin cfg0.N, win0_0.index t = ![0, 0] ∧ win0_1.index t = ![t.val, 0] ∧ win0_2.index t = ![0, 0] ∧ win0_3.index t = ![0, 0] ∧
    win0_4.index t = ![0, 0] ∧ win0_5.index t = ![0, 0] :=
  (by decide +kernel : ∀ t : Fin grid0.N, _)

/-- The arrays the kernel is called with. -/
abbrev aX : S36864x2048.Idx → EReal := V m c main_v0
abbrev aW : S1x2048.Idx → EReal := V m c main_v1
abbrev aQ : S2048x4096.Idx → EReal := V m c main_arg2
abbrev aS : S16x32.Idx → EReal := V m c main_arg3
abbrev aQw : S1x128.Idx → EReal := V m c main_v2
abbrev aKw : S1x128.Idx → EReal := V m c main_v3

/-- Every point's block of the weight scales is the whole array. -/
theorem blk0 (t : Fin cfg0.N) : iblk m c 0 t = aS m c := by blk_ext! [iblk, widx t]
/-- Every point's block of the norm's weights is the whole array. -/
theorem blk2 (t : Fin cfg0.N) : iblk m c 2 t = aW m c := by blk_ext! [iblk, widx t]
/-- Every point's block of the weight codes is the whole array. -/
theorem blk3 (t : Fin cfg0.N) : iblk m c 3 t = aQ m c := by blk_ext! [iblk, widx t]
/-- Every point's block of the query head norm's weights is the whole array. -/
theorem blk4 (t : Fin cfg0.N) : iblk m c 4 t = aQw m c := by blk_ext! [iblk, widx t]
/-- Every point's block of the key head norm's weights is the whole array. -/
theorem blk5 (t : Fin cfg0.N) : iblk m c 5 t = aKw m c := by blk_ext! [iblk, widx t]

/-- Row `r` of point `t`'s block is row `512 t + r`. -/
theorem blk1 (t : Fin cfg0.N) (r : Fin 512) (d : Fin 2048) (h : 512 * t.val + r < 36864) : iblk m c 1 t (ix2 r d) = aX m c (ix2 ⟨512 * t.val + r, h⟩ d) := by
  blk_ext! [iblk, widx t]

/-- What every point leaves: its rows' results over the widened weights, which it keeps. -/
theorem point_eq (hw : ∀ d, max (wRow (aW m c) d) (-(wRow (aW m c) d)) ≤ Ideal.ofBits .f32 2139095039#32) :
    ∀ (n : ℕ) (hn : n < cfg0.N), outsAt0 m c n hn = pointG (iblk m c 1 ⟨n, hn⟩) (aW m c) (wbG (aQ m c) (aS m c)) (aQw m c) (aKw m c) := by
  have N72 : cfg0.N = 72 := N_0
  intro n
  induction n with
  | zero =>
    intro hn
    refine (outsAt0_A m c ⟨0, hn⟩ (Nat.zero_mod _)).trans ?_
    rw [blk0, blk2, blk3, blk4, blk5]
    exact outA_eq _ _ _ _ _ _ _ _ _ _ _ _ _ _ _ _ _ _ _ _ _ _ _ _ _ _ _ _ _ _ _ _ _ _ _ hw
  | succ n ih =>
    intro hn
    refine (outsAt0_B m c ⟨n + 1, hn⟩ (by show ¬ (n + 1) % 72 = 0; omega)).trans ?_
    rw [blk0, blk2, blk3, blk4, blk5]
    refine (outB_eq _ _ _ _ _ _ _ _ _ _ _ _ _ _ _ _ _ _ _ _ _ _ _ _ _ _ _ _ _ _ _ _ _ _ _ _ hw).trans ?_
    have e := ih (by omega)
    show pointG _ _ (outsAt0 m c n _).2.2.2.2.2 _ _ = _
    rw [e]
    rfl

/-- A block's row, in the whole array. -/
theorem row_eq (t : Fin cfg0.N) (i r : ℕ) (hi : i < 36864) (hr : r < 512) (e : i = 512 * t.val + r) :
    xRow (iblk m c 1 t) ⟨r, hr⟩ = fun d => aX m c (ix2 ⟨i, hi⟩ d) := by
  subst e
  funext d
  exact blk1 m c t ⟨r, hr⟩ d hi

variable (hw : ∀ d, max (wRow (aW m c) d) (-(wRow (aW m c) d)) ≤ Ideal.ofBits .f32 2139095039#32)
include hw

/-- The queries after the run. -/
theorem G6_eq : G6 m c = headG (R := 36864) 16 0 (by omega) (hbF (aX m c) (aW m c)) (wbG (aQ m c) (aS m c)) (aQw m c) := by
  have N72 : cfg0.N = 72 := N_0
  funext i
  have h0 : (i 0).val < 36864 := (i 0).isLt
  have h1 : (i 1).val < 16 := (i 1).isLt
  have h2 : (i 2).val < 128 := (i 2).isLt
  have hp : pt6Of i = (i 0).val / 512 := by
    show 1 * ((i 0).val / 512 - 0) + 1 * ((i 1).val / 16 - 0) + 1 * ((i 2).val / 128 - 0) = _
    omega
  have hn : pt6Of i < cfg0.N := by omega
  unfold G6
  rw [dif_pos hn, ← outsAt0_sweep m c _ hn, point_eq m c hw _ hn]
  have er := row_eq m c ⟨pt6Of i, hn⟩ (i 0).val ((i 0).val % 512) h0 (Nat.mod_lt _ (by decide)) (by show _ = 512 * pt6Of i + _; omega)
  have e1 : (⟨(i 1).val % 16, Nat.mod_lt _ (by decide)⟩ : Fin 16) = i 1 := Fin.ext (Nat.mod_eq_of_lt h1)
  have e2 : (⟨(i 2).val % 128, Nat.mod_lt _ (by decide)⟩ : Fin 128) = i 2 := Fin.ext (Nat.mod_eq_of_lt h2)
  show headNorm (fun l => proj (fun d => hbRow (xRow (iblk m c 1 ⟨pt6Of i, hn⟩) ⟨(i 0).val % 512, _⟩) (wRow (aW m c)) d) (fun d n => wbG (aQ m c) (aS m c) (ix2 d n)) (hcol (H := 16) 0 (by omega) (⟨(i 1).val % 16, _⟩ : Fin 16) l)) (fun l => aQw m c (ix2 0 l)) (⟨(i 2).val % 128, _⟩ : Fin 128) = _
  rw [er, e1, e2]
  rfl

/-- The keys after the run. -/
theorem G7_eq : G7 m c = headG (R := 36864) 8 2048 (by omega) (hbF (aX m c) (aW m c)) (wbG (aQ m c) (aS m c)) (aKw m c) := by
  have N72 : cfg0.N = 72 := N_0
  funext i
  have h0 : (i 0).val < 36864 := (i 0).isLt
  have h1 : (i 1).val < 8 := (i 1).isLt
  have h2 : (i 2).val < 128 := (i 2).isLt
  have hp : pt7Of i = (i 0).val / 512 := by
    show 1 * ((i 0).val / 512 - 0) + 1 * ((i 1).val / 8 - 0) + 1 * ((i 2).val / 128 - 0) = _
    omega
  have hn : pt7Of i < cfg0.N := by omega
  unfold G7
  rw [dif_pos hn, ← outsAt0_sweep m c _ hn, point_eq m c hw _ hn]
  have er := row_eq m c ⟨pt7Of i, hn⟩ (i 0).val ((i 0).val % 512) h0 (Nat.mod_lt _ (by decide)) (by show _ = 512 * pt7Of i + _; omega)
  have e1 : (⟨(i 1).val % 8, Nat.mod_lt _ (by decide)⟩ : Fin 8) = i 1 := Fin.ext (Nat.mod_eq_of_lt h1)
  have e2 : (⟨(i 2).val % 128, Nat.mod_lt _ (by decide)⟩ : Fin 128) = i 2 := Fin.ext (Nat.mod_eq_of_lt h2)
  show headNorm (fun l => proj (fun d => hbRow (xRow (iblk m c 1 ⟨pt7Of i, hn⟩) ⟨(i 0).val % 512, _⟩) (wRow (aW m c)) d) (fun d n => wbG (aQ m c) (aS m c) (ix2 d n)) (hcol (H := 8) 2048 (by omega) (⟨(i 1).val % 8, _⟩ : Fin 8) l)) (fun l => aKw m c (ix2 0 l)) (⟨(i 2).val % 128, _⟩ : Fin 128) = _
  rw [er, e1, e2]
  rfl

/-- The values after the run. -/
theorem G8_eq : G8 m c = valG (R := 36864) 8 3072 (by omega) (hbF (aX m c) (aW m c)) (wbG (aQ m c) (aS m c)) := by
  have N72 : cfg0.N = 72 := N_0
  funext i
  have h0 : (i 0).val < 36864 := (i 0).isLt
  have h1 : (i 1).val < 8 := (i 1).isLt
  have h2 : (i 2).val < 128 := (i 2).isLt
  have hp : pt8Of i = (i 0).val / 512 := by
    show 1 * ((i 0).val / 512 - 0) + 1 * ((i 1).val / 8 - 0) + 1 * ((i 2).val / 128 - 0) = _
    omega
  have hn : pt8Of i < cfg0.N := by omega
  unfold G8
  rw [dif_pos hn, ← outsAt0_sweep m c _ hn, point_eq m c hw _ hn]
  have er := row_eq m c ⟨pt8Of i, hn⟩ (i 0).val ((i 0).val % 512) h0 (Nat.mod_lt _ (by decide)) (by show _ = 512 * pt8Of i + _; omega)
  have e1 : (⟨(i 1).val % 8, Nat.mod_lt _ (by decide)⟩ : Fin 8) = i 1 := Fin.ext (Nat.mod_eq_of_lt h1)
  have e2 : (⟨(i 2).val % 128, Nat.mod_lt _ (by decide)⟩ : Fin 128) = i 2 := Fin.ext (Nat.mod_eq_of_lt h2)
  show proj (fun d => hbRow (xRow (iblk m c 1 ⟨pt8Of i, hn⟩) ⟨(i 0).val % 512, _⟩) (wRow (aW m c)) d) (fun d n => wbG (aQ m c) (aS m c) (ix2 d n)) (hcol (H := 8) 3072 (by omega) (⟨(i 1).val % 8, _⟩ : Fin 8) (⟨(i 2).val % 128, _⟩ : Fin 128)) = _
  rw [er, e1, e2]
  rfl

/-- The codes after the run. -/
theorem G9_eq : G9 m c = codesF (aX m c) (aW m c) := by
  have N72 : cfg0.N = 72 := N_0
  funext i
  have h0 : (i 0).val < 36864 := (i 0).isLt
  have h1 : (i 1).val < 2048 := (i 1).isLt
  have hp : pt9Of i = (i 0).val / 512 := by
    show 1 * ((i 0).val / 512 - 0) + 1 * ((i 1).val / 2048 - 0) = _
    omega
  have hn : pt9Of i < cfg0.N := by omega
  unfold G9
  rw [dif_pos hn, ← outsAt0_sweep m c _ hn, point_eq m c hw _ hn]
  have er := row_eq m c ⟨pt9Of i, hn⟩ (i 0).val ((i 0).val % 512) h0 (Nat.mod_lt _ (by decide)) (by show _ = 512 * pt9Of i + _; omega)
  have e1 : (⟨(i 1).val % 2048, Nat.mod_lt _ (by decide)⟩ : Fin 2048) = i 1 := Fin.ext (Nat.mod_eq_of_lt h1)
  show codeRow (xRow (iblk m c 1 ⟨pt9Of i, hn⟩) ⟨(i 0).val % 512, _⟩) (wRow (aW m c)) (⟨(i 1).val % 2048, _⟩ : Fin 2048) = _
  rw [er, e1]
  rfl

/-- The scales after the run. -/
theorem G10_eq : G10 m c = scaleF (aX m c) (aW m c) := by
  have N72 : cfg0.N = 72 := N_0
  funext i
  have h0 : (i 0).val < 36864 := (i 0).isLt
  have h1 : (i 1).val < 16 := (i 1).isLt
  have hp : pt10Of i = (i 0).val / 512 := by
    show 1 * ((i 0).val / 512 - 0) + 1 * ((i 1).val / 16 - 0) = _
    omega
  have hn : pt10Of i < cfg0.N := by omega
  unfold G10
  rw [dif_pos hn, ← outsAt0_sweep m c _ hn, point_eq m c hw _ hn]
  have er := row_eq m c ⟨pt10Of i, hn⟩ (i 0).val ((i 0).val % 512) h0 (Nat.mod_lt _ (by decide)) (by show _ = 512 * pt10Of i + _; omega)
  have e1 : (⟨(i 1).val % 16, Nat.mod_lt _ (by decide)⟩ : Fin 16) = i 1 := Fin.ext (Nat.mod_eq_of_lt h1)
  show scaleRow (xRow (iblk m c 1 ⟨pt10Of i, hn⟩) ⟨(i 0).val % 512, _⟩) (wRow (aW m c)) (⟨(i 1).val % 16, _⟩ : Fin 16) = _
  rw [er, e1]
  rfl

end Cert.Qkv

end

end
-- ==== Proof.RefBody.lean ====
module

public import proofs.«01_k».proof.Proof.Spec
public import proofs.«01_k».proof.Proof.Gen.ReferenceIdeal.Frame
public import Idealize.ShloMosaic.Lib.Pipeline.ValueKit

@[expose] public section

set_option maxRecDepth 16384

noncomputable section

namespace Cert.Qkv.Ref

open Idealize.ShloMosaic Cert.ReferenceIdeal Cert.ReferenceIdeal.Gen

/-! The reference's values, index by index. -/

/-- The greatest entry of each group. -/
def greatest (a : FVec Ideal S36864x16x128 .f32) : FVec Ideal S36864x16 .f32 :=
  multiReduction .maximumf [2] S36864x16 a 0xFF800000#32 reduces_S36864x16x128_S36864x16 (.inl rfl) rfl

/-- A group's largest magnitude over the type's largest number. -/
def tops (h : FVec Ideal S36864x16x128 .f32) : FVec Ideal S36864x16 .f32 :=
  mulf (greatest (absf h))
    (broadcast S36864x16 (Scalar.ofBits .f32 0x3B124925#32))

/-- The powers of two from `2⁻¹²⁵` on. -/
def powers : FVec Ideal S36864x16x253 .f32 :=
  exp2 (subf (sitofp .f32 (iota .tc S36864x16x253 32 [2] iota_S36864x16x253_d2_w32)) (broadcast S36864x16x253 (Scalar.ofBits .f32 0x42FA0000#32)))

/-- Each power that exceeds its group's entry; infinity elsewhere. -/
def above (t : FVec Ideal S36864x16 .f32) (p : FVec Ideal S36864x16x253 .f32) : FVec Ideal S36864x16x253 .f32 :=
  select (cmpf .ogt p (broadcastTo S36864x16x253 (shapeCast S36864x16x1 t shapeCasts_S36864x16_S36864x16x1) broadcasts_S36864x16x1_S36864x16x253)) p
    (broadcast S36864x16x253 (Scalar.ofBits .f32 0x7F800000#32))

/-- The least entry of each group. -/
def least (a : FVec Ideal S36864x16x253 .f32) : FVec Ideal S36864x16 .f32 :=
  multiReduction .minimumf [2] S36864x16 a 0x7F800000#32 reduces_S36864x16x253_S36864x16 (.inl rfl) rfl

/-- One where the entry is below the least normal number. -/
def orOne (t s : FVec Ideal S36864x16 .f32) : FVec Ideal S36864x16 .f32 :=
  select (cmpf .olt t (broadcast S36864x16 (Scalar.ofBits .f32 0x00800000#32))) (broadcast S36864x16 (Scalar.ofBits .f32 0x3F800000#32)) s

/-- The greatest entry is the maximum over the lanes. -/
theorem greatest_eq (a : FVec Ideal S36864x16x128 .f32) (r : Fin 36864) (g : Fin 16) :
    greatest a (ix2 r g) = Finset.univ.fold max (Ideal.ofBits .f32 0xFF800000#32) (fun k : Fin 128 => a (ix3 r g k)) := by
  unfold greatest
  pointwise

/-- Magnitudes are taken entry by entry. -/
theorem abs_eq (h : FVec Ideal S36864x16x128 .f32) (r : Fin 36864) (g : Fin 16) (l : Fin 128) :
    absf h (ix3 r g l) = FloatOps.absf (h (ix3 r g l)) := by
  pointwise

/-- The division by 448 is taken entry by entry. -/
theorem over_eq (a : FVec Ideal S36864x16 .f32) (r : Fin 36864) (g : Fin 16) :
    mulf a (broadcast S36864x16 (Scalar.ofBits .f32 0x3B124925#32)) (ix2 r g) = a (ix2 r g) * Ideal.ofBits .f32 0x3B124925#32 := by
  pointwise

/-- A group's entry is its peak. -/
theorem tops_eq (h : FVec Ideal S36864x16x128 .f32) (r : Fin 36864) (g : Fin 16) :
    tops h (ix2 r g) = peak fun l => h (ix3 r g l) := by
  unfold tops peak
  rw [over_eq, greatest_eq]
  simp only [abs_eq]

/-- The `k`th power of two. -/
theorem powers_eq (r : Fin 36864) (g : Fin 16) (k : Fin 253) :
    powers (ix3 r g k) = Ideal.exp2 (FloatOps.sitofp (F := Ideal) .f32 (BitVec.ofNat 32 k) - Ideal.ofBits .f32 0x42FA0000#32) := by
  unfold powers
  pointwise
  rfl

/-- The `k`th candidate of a group. -/
theorem above_eq (t : FVec Ideal S36864x16 .f32) (p : FVec Ideal S36864x16x253 .f32) (r : Fin 36864) (g : Fin 16) (k : Fin 253) :
    above t p (ix3 r g k) = if t (ix2 r g) < p (ix3 r g k) then p (ix3 r g k) else Ideal.ofBits .f32 0x7F800000#32 := by
  unfold above
  pointwise

/-- The least entry is the minimum over the candidates. -/
theorem least_eq (a : FVec Ideal S36864x16x253 .f32) (r : Fin 36864) (g : Fin 16) :
    least a (ix2 r g) = Finset.univ.fold min (Ideal.ofBits .f32 0x7F800000#32) (fun k : Fin 253 => a (ix3 r g k)) := by
  unfold least
  pointwise

/-- The choice between one and the least power. -/
theorem orOne_eq (t s : FVec Ideal S36864x16 .f32) (r : Fin 36864) (g : Fin 16) :
    orOne t s (ix2 r g) = if t (ix2 r g) < Ideal.ofBits .f32 0x00800000#32 then 1 else s (ix2 r g) := by
  unfold orOne
  pointwise

/-- The scales of normalised rows. -/
def scales (h : FVec Ideal S36864x16x128 .f32) : FVec Ideal S36864x16 .f32 :=
  orOne (tops h) (least (above (tops h) powers))

/-- A group's scale is the scale of its peak. -/
theorem scales_eq (h : FVec Ideal S36864x16x128 .f32) (r : Fin 36864) (g : Fin 16) :
    scales h (ix2 r g) = scaleOf (peak fun l => h (ix3 r g l)) := by
  unfold scales scaleOf
  rw [orOne_eq, least_eq, tops_eq]
  simp only [above_eq, tops_eq, powers_eq]

/-- Rows over their scales. -/
def scaled (h : FVec Ideal S36864x16x128 .f32) (s : FVec Ideal S36864x16 .f32) : FVec Ideal S36864x16x128 .f32 :=
  mulf h (broadcastTo S36864x16x128 (shapeCast S36864x16x1 (divf (broadcast S36864x16 (Scalar.ofBits .f32 0x3F800000#32)) s) shapeCasts_S36864x16_S36864x16x1) broadcasts_S36864x16x1_S36864x16x128)

/-- An entry of the rows over their scales. -/
theorem scaled_eq (h : FVec Ideal S36864x16x128 .f32) (s : FVec Ideal S36864x16 .f32) (r : Fin 36864) (g : Fin 16) (l : Fin 128) :
    scaled h s (ix3 r g l) = h (ix3 r g l) * Ideal.div 1 (s (ix2 r g)) := by
  unfold scaled
  pointwise

section row
variable (x : Vec Ideal S36864x2048 .bf16) (w : Vec Ideal S1x2048 .f32) (r : Fin 36864)

/-- Row `r` and the norm's weights. -/
abbrev row : Fin 2048 → EReal := fun d => x (ix2 r d)
abbrev nw : Fin 2048 → EReal := fun d => w (ix2 0 d)

/-- The normalised rows. -/
theorem h_eq (g : Fin 16) (l : Fin 128) : k0_pay4 x w (ix3 r g l) = hRow (row x r) (nw w) (gl g l) := by
  pointwise [k0_pay4]
  rfl

/-- The scales. -/
theorem scale_eq (g : Fin 16) : k0_pay5 x w (ix2 r g) = scaleRow (row x r) (nw w) g := by
  have e : k0_pay5 x w = scales (k0_pay4 x w) := rfl
  rw [e, scales_eq]
  unfold scaleRow
  congr 2
  funext l
  exact h_eq x w r g l

/-- The normalised rows over their scales. -/
theorem scaled_row (g : Fin 16) (l : Fin 128) :
    k0_pay6 x w (ix3 r g l) = hRow (row x r) (nw w) (gl g l) * Ideal.div 1 (scaleRow (row x r) (nw w) g) := by
  have e : k0_pay6 x w = scaled (k0_pay4 x w) (k0_pay5 x w) := rfl
  rw [e, scaled_eq, h_eq, scale_eq]

/-- The codes. -/
theorem code_eq (d : Fin 2048) : k0_pay9 (k0_pay6 x w) (Scalar.ofBits .f32 0x43E00000#32) k0_pay7 (ix2 r d) = codeRow (row x r) (nw w) d := by
  have h := scaled_row x w r (grp d) ⟨(d : ℕ) % 128, Nat.mod_lt _ (by decide)⟩
  generalize k0_pay6 x w = a at h
  have e : gl (grp d) ⟨(d : ℕ) % 128, Nat.mod_lt _ (by decide)⟩ = d := Fin.ext (Nat.div_add_mod' _ _)
  rw [e] at h
  pointwise [k0_pay9, k0_pay8, k0_pay7]
  exact congrArg (fun z => min _ (max _ z)) h

/-- The rows as the product reads them. -/
theorem hb_eq (d : Fin 2048) : k0_pay10 (k0_pay5 x w) (k0_pay6 x w) (Scalar.ofBits .f32 0x43E00000#32) k0_pay7 (ix2 r d) = hbRow (row x r) (nw w) d := by
  have h := scaled_row x w r (grp d) ⟨(d : ℕ) % 128, Nat.mod_lt _ (by decide)⟩
  have hs := scale_eq x w r (grp d)
  generalize k0_pay6 x w = a at h
  generalize k0_pay5 x w = s at hs
  have e : gl (grp d) ⟨(d : ℕ) % 128, Nat.mod_lt _ (by decide)⟩ = d := Fin.ext (Nat.div_add_mod' _ _)
  rw [e] at h
  pointwise [k0_pay10, k0_pay8, k0_pay7]
  exact congrArg₂ (fun z y => min _ (max _ z) * y) h hs
end row

/-- The weights as the product reads them. -/
theorem wb_eq (q : Vec Ideal S2048x4096 .fp8e4m3) (s : Vec Ideal S16x32 .f32) (d : Fin 2048) (n : Fin 4096) :
    k0_pay11 q s (ix2 d n) = wbAt (fun d n => q (ix2 d n)) (fun g n => s (ix2 g n)) d n := by
  pointwise [k0_pay11]
  rfl

section proj
variable (s : FVec Ideal S36864x16 .f32) (a : FVec Ideal S36864x16x128 .f32) (b : Ideal .f32) (c : FVec Ideal S36864x16x128 .f32)
  (q : Vec Ideal S2048x4096 .fp8e4m3) (t : Vec Ideal S16x32 .f32) (hb : Fin 36864 → Fin 2048 → EReal) (wb : Fin 2048 → Fin 4096 → EReal)
  (Hb : ∀ r d, k0_pay10 s a b c (ix2 r d) = hb r d) (Wb : ∀ d n, k0_pay11 q t (ix2 d n) = wb d n)
include Hb Wb

/-- The query heads before their norm. -/
theorem q_eq (r : Fin 36864) (h : Fin 16) (l : Fin 128) : k0_pay12 s a b c q t (ix3 r h l) = proj (hb r) wb ⟨0 + (h * 128 + l), by omega⟩ := by
  unfold k0_pay12
  generalize k0_pay10 s a b c = A at Hb
  generalize k0_pay11 q t = B at Wb
  pointwise
  unfold proj
  refine Finset.sum_congr rfl fun d _ => ?_
  rw [Hb, Wb]

/-- The key heads before their norm. -/
theorem k_eq (r : Fin 36864) (h : Fin 8) (l : Fin 128) : k0_pay13 s a b c q t (ix3 r h l) = proj (hb r) wb ⟨2048 + (h * 128 + l), by omega⟩ := by
  unfold k0_pay13
  generalize k0_pay10 s a b c = A at Hb
  generalize k0_pay11 q t = B at Wb
  pointwise
  unfold proj
  refine Finset.sum_congr rfl fun d _ => ?_
  rw [Hb, Wb]

/-- The value heads. -/
theorem v_eq (r : Fin 36864) (h : Fin 8) (l : Fin 128) : k0_pay14 s a b c q t (ix3 r h l) = proj (hb r) wb ⟨3072 + (h * 128 + l), by omega⟩ := by
  unfold k0_pay14
  generalize k0_pay10 s a b c = A at Hb
  generalize k0_pay11 q t = B at Wb
  pointwise
  unfold proj
  refine Finset.sum_congr rfl fun d _ => ?_
  rw [Hb, Wb]

/-- The query heads after their norm. -/
theorem qn_eq (w : Vec Ideal S1x1x128 .f32) (r : Fin 36864) (h : Fin 16) (l : Fin 128) :
    k0_pay1 (k0_pay12 s a b c q t) (k0_pay15 w) (k0_pay16 s a b c q t) (ix3 r h l) =
      headNorm (fun l => proj (hb r) wb ⟨0 + (h * 128 + l), by omega⟩) (fun l => w (ix3 0 0 l)) l := by
  have H := q_eq s a b c q t hb wb Hb Wb r h
  have H : ∃ G : Fin 128 → EReal, G = (fun l : Fin 128 => proj (hb r) wb ⟨0 + (h * 128 + l), by omega⟩) ∧ ∀ l, k0_pay12 s a b c q t (ix3 r h l) = G l := ⟨_, rfl, H⟩
  obtain ⟨G, hG, H⟩ := H
  rw [← hG]
  unfold k0_pay16
  generalize k0_pay12 s a b c q t = A at H
  pointwise [k0_pay1, k0_pay15]
  simp only [H]
  rfl

/-- The key heads after their norm. -/
theorem kn_eq (w : Vec Ideal S1x1x128 .f32) (r : Fin 36864) (h : Fin 8) (l : Fin 128) :
    k0_pay2 (k0_pay13 s a b c q t) w (ix3 r h l) =
      headNorm (fun l => proj (hb r) wb ⟨2048 + (h * 128 + l), by omega⟩) (fun l => w (ix3 0 0 l)) l := by
  have H := k_eq s a b c q t hb wb Hb Wb r h
  generalize k0_pay13 s a b c q t = A at H
  pointwise [k0_pay2]
  simp only [H]
  rfl

/-- The value heads as stored. -/
theorem vn_eq (r : Fin 36864) (h : Fin 8) (l : Fin 128) :
    k0_pay3 (k0_pay14 s a b c q t) (ix3 r h l) = proj (hb r) wb ⟨3072 + (h * 128 + l), by omega⟩ := by
  have H := v_eq s a b c q t hb wb Hb Wb r h
  generalize k0_pay14 s a b c q t = A at H
  pointwise [k0_pay3]
  exact H l
end proj

end Cert.Qkv.Ref

end

end
-- ==== Proof.Reference.lean ====
module

public import proofs.«01_k».proof.Proof.RefBody
public import proofs.«01_k».proof.Proof.Heads
public import proofs.«01_k».proof.Proof.Gen.ReferenceIdeal.Value
public import Idealize.ShloMosaic.Lib.Pipeline.ValueKit

@[expose] public section

set_option maxRecDepth 16384

noncomputable section

namespace Cert.Qkv.Ref

open Idealize.ShloMosaic Idealize.ShloMosaic.TcCoe Cert.ReferenceIdeal Cert.ReferenceIdeal.Gen Cert.ReferenceIdeal.Value

/-! The reference's five results as functions of its operands. -/

/-- The corner of a whole array of two axes. -/
theorem hz2 : (![0, 0] : Fin 2 → Nat) = fun _ => 0 := funext fun a => by fin_cases a <;> rfl
/-- The corner of a whole array of three axes. -/
theorem hz3 : (![0, 0, 0] : Fin 3 → Nat) = fun _ => 0 := funext fun a => by fin_cases a <;> rfl

section body
variable (x : Vec Ideal S36864x2048 .bf16) (w : Vec Ideal S1x2048 .f32) (q : Vec Ideal S2048x4096 .fp8e4m3) (s : Vec Ideal S16x32 .f32)
  (qw kw : Vec Ideal S1x1x128 .f32)

/-- The rows the product reads. -/
def rows : S36864x2048.Idx → EReal := fun y => hbRow (fun d => x (ix2 (y 0) d)) (fun d => w (ix2 0 d)) (y 1)

/-- A head's weights as one row. -/
def flat (u : Vec Ideal S1x1x128 .f32) : Shape.Idx ⟨2, ![1, 128]⟩ → EReal := fun y => u (ix3 0 0 (y 1))

/-- The rows are read whole. -/
theorem ld0 : View.ld x r0_0 = x := View.ld_unit_zero hz2 _ x
/-- The norm's weights are read whole. -/
theorem ld1 : View.ld w r0_1 = w := View.ld_unit_zero hz2 _ w
/-- The weight codes are read whole. -/
theorem ld3 : View.ld q r0_3 = q := View.ld_unit_zero hz2 _ q
/-- The weight scales are read whole. -/
theorem ld4 : View.ld s r0_4 = s := View.ld_unit_zero hz2 _ s
/-- A head norm's weights are read whole. -/
theorem ld5 : View.ld qw r0_5 = qw := View.ld_unit_zero hz3 _ qw

/-- The scales, of the arrays read whole. -/
theorem pay17 : k0_pay17 x w q s qw kw = k0_pay5 x w := by unfold k0_pay17; rw [ld0, ld1]
/-- The scaled rows, of the arrays read whole. -/
theorem pay18 : k0_pay18 x w q s qw kw = k0_pay6 x w := by unfold k0_pay18; rw [ld0, ld1]
/-- The lower bound of the clip. -/
theorem pay19 : k0_pay19 x w q s qw kw = k0_pay7 := rfl

/-- An index of two axes is given by its coordinates. -/
theorem ix2_eta {a b : ℕ} (y : Shape.Idx ⟨2, ![a, b]⟩) : y = ix2 (y 0) (y 1) := by
  funext i; fin_cases i <;> rfl
/-- An index of three axes is given by its coordinates. -/
theorem ix3_eta {a b c : ℕ} (y : Shape.Idx ⟨3, ![a, b, c]⟩) : y = ix3 (y 0) (y 1) (y 2) := by
  funext i; fin_cases i <;> rfl

/-- The stored scales. -/
theorem out10 : out0_10 x w q s qw kw = fun y => scaleRow (fun d => x (ix2 (y 0) d)) (fun d => w (ix2 0 d)) (y 1) := by
  unfold out0_10
  rw [pay17]
  refine (View.canon_unit_zero hz2 _ _).trans ?_
  funext y
  conv_lhs => rw [ix2_eta y]
  exact scale_eq x w (y 0) (y 1)

/-- The stored codes. -/
theorem out9 : out0_9 x w q s qw kw = fun y => codeRow (fun d => x (ix2 (y 0) d)) (fun d => w (ix2 0 d)) (y 1) := by
  unfold out0_9
  rw [pay18, pay19]
  refine (View.canon_unit_zero hz2 _ _).trans ?_
  funext y
  conv_lhs => rw [ix2_eta y]
  exact code_eq x w (y 0) (y 1)

/-- The stored value heads. -/
theorem out8 : out0_8 x w q s qw kw = valG (R := 36864) 8 3072 (by omega) (rows x w) (wbG q s) := by
  unfold out0_8
  rw [pay17, pay18, pay19, ld3, ld4]
  refine (View.canon_unit_zero hz3 _ _).trans ?_
  funext y
  conv_lhs => rw [ix3_eta y]
  exact vn_eq _ _ _ _ q s _ _ (fun r d => hb_eq x w r d) (fun d n => wb_eq q s d n) (y 0) (y 1) (y 2)

/-- The stored key heads. -/
theorem out7 : out0_7 x w q s qw kw = headG (R := 36864) 8 2048 (by omega) (rows x w) (wbG q s) (flat kw) := by
  unfold out0_7
  rw [pay17, pay18, pay19, ld3, ld4, ld5]
  refine (View.canon_unit_zero hz3 _ _).trans ?_
  funext y
  conv_lhs => rw [ix3_eta y]
  exact kn_eq _ _ _ _ q s _ _ (fun r d => hb_eq x w r d) (fun d n => wb_eq q s d n) kw (y 0) (y 1) (y 2)

/-- The stored query heads. -/
theorem out6 : out0_6 x w q s qw kw = headG (R := 36864) 16 0 (by omega) (rows x w) (wbG q s) (flat qw) := by
  unfold out0_6
  rw [pay17, pay18, pay19, ld3, ld4, ld5]
  refine (View.canon_unit_zero hz3 _ _).trans ?_
  funext y
  conv_lhs => rw [ix3_eta y]
  exact qn_eq _ _ _ _ q s _ _ (fun r d => hb_eq x w r d) (fun d n => wb_eq q s d n) qw (y 0) (y 1) (y 2)
end body

section arrays
variable (m : (ℓ : Loc nD τ sig) → Buf (Elt Ideal) ℓ) (c : Dev nD)

abbrev rX : S36864x2048.Idx → EReal := V m c main_v0
abbrev rW : S1x2048.Idx → EReal := V m c main_v1
abbrev rQ : S2048x4096.Idx → EReal := V m c main_arg2
abbrev rS : S16x32.Idx → EReal := V m c main_arg3
abbrev rQw : S1x1x128.Idx → EReal := V m c main_v2
abbrev rKw : S1x1x128.Idx → EReal := V m c main_v3

/-- The one point's blocks start at the corner. -/
theorem widx : ∀ t : Fin cfg0.N, win0_0.index t = ![0, 0] ∧ win0_1.index t = ![0, 0] ∧ win0_2.index t = ![0, 0] ∧ win0_3.index t = ![0, 0] ∧
    win0_4.index t = ![0, 0, 0] ∧ win0_5.index t = ![0, 0, 0] :=
  (by decide +kernel : ∀ t : Fin grid0.N, _)

/-- The point's block of the rows is the whole array. -/
theorem blk0 (t : Fin cfg0.N) : iblk m c 0 t = rX m c := by blk_ext! [iblk, widx t]
/-- The point's block of the norm's weights is the whole array. -/
theorem blk1 (t : Fin cfg0.N) : iblk m c 1 t = rW m c := by blk_ext! [iblk, widx t]
/-- The point's block of the weight codes is the whole array. -/
theorem blk2 (t : Fin cfg0.N) : iblk m c 2 t = rQ m c := by blk_ext! [iblk, widx t]
/-- The point's block of the weight scales is the whole array. -/
theorem blk3 (t : Fin cfg0.N) : iblk m c 3 t = rS m c := by blk_ext! [iblk, widx t]
/-- The point's block of the query head norm's weights is the whole array. -/
theorem blk4 (t : Fin cfg0.N) : iblk m c 4 t = rQw m c := by blk_ext! [iblk, widx t]
/-- The point's block of the key head norm's weights is the whole array. -/
theorem blk5 (t : Fin cfg0.N) : iblk m c 5 t = rKw m c := by blk_ext! [iblk, widx t]

/-- The query heads the reference ends with. -/
theorem arr6 : (dats m 0 c).arrAt 6 cfg0.N = headG (R := 36864) 16 0 (by omega) (rows (rX m c) (rW m c)) (wbG (rQ m c) (rS m c)) (flat (rQw m c)) := by
  refine (dats m 0 c).arrAt_eq_of_after_last 6 t0_0 (by decide +kernel) _ fun j => ?_
  blk_simp
  rw [after0_6, blk0, blk1, blk2, blk3, blk4, blk5, out6]

/-- The key heads the reference ends with. -/
theorem arr7 : (dats m 0 c).arrAt 7 cfg0.N = headG (R := 36864) 8 2048 (by omega) (rows (rX m c) (rW m c)) (wbG (rQ m c) (rS m c)) (flat (rKw m c)) := by
  refine (dats m 0 c).arrAt_eq_of_after_last 7 t0_0 (by decide +kernel) _ fun j => ?_
  blk_simp
  rw [after0_7, blk0, blk1, blk2, blk3, blk4, blk5, out7]

/-- The value heads the reference ends with. -/
theorem arr8 : (dats m 0 c).arrAt 8 cfg0.N = valG (R := 36864) 8 3072 (by omega) (rows (rX m c) (rW m c)) (wbG (rQ m c) (rS m c)) := by
  refine (dats m 0 c).arrAt_eq_of_after_last 8 t0_0 (by decide +kernel) _ fun j => ?_
  blk_simp
  rw [after0_8, blk0, blk1, blk2, blk3, blk4, blk5, out8]

/-- The codes the reference ends with. -/
theorem arr9 : (dats m 0 c).arrAt 9 cfg0.N = fun y : S36864x2048.Idx => codeRow (fun d => rX m c (ix2 (y 0) d)) (fun d => rW m c (ix2 0 d)) (y 1) := by
  refine (dats m 0 c).arrAt_eq_of_after_last 9 t0_0 (by decide +kernel) _ fun j => ?_
  blk_simp
  rw [after0_9, blk0, blk1, blk2, blk3, blk4, blk5, out9]

/-- The scales the reference ends with. -/
theorem arr10 : (dats m 0 c).arrAt 10 cfg0.N = fun y : S36864x16.Idx => scaleRow (fun d => rX m c (ix2 (y 0) d)) (fun d => rW m c (ix2 0 d)) (y 1) := by
  refine (dats m 0 c).arrAt_eq_of_after_last 10 t0_0 (by decide +kernel) _ fun j => ?_
  blk_simp
  rw [after0_10, blk0, blk1, blk2, blk3, blk4, blk5, out10]
end arrays

end Cert.Qkv.Ref

end

end
-- ==== Proof.EntryK.lean ====
module

public import proofs.«01_k».proof.Proof.Gen.KernelIdeal.Value
public import Idealize.ShloMosaic.Lib.Pipeline.ValueKit

@[expose] public section

set_option maxRecDepth 16384

noncomputable section

namespace Cert.Qkv.EntryK

open Idealize.ShloMosaic Idealize.ShloMosaic.TcCoe Cert.KernelIdeal Cert.KernelIdeal.Gen Cert.KernelIdeal.Value

variable (m : (ℓ : Loc nD τ sig) → Buf (Elt Ideal) ℓ) (c : Dev nD)

/-! The arrays the call reads, element by element of the arguments. -/

/-- The rows: row `r` is position `r % 1536` of sequence `r / 1536`. -/
theorem x_at (r : Fin 36864) (d : Fin 2048) : (V m c main_v0 : S36864x2048.Idx → EReal) (ix2 r d) =
    (m ((c.tc : Thread nD τ).loc main_arg0) : S24x1536x2048.Idx → EReal) (ix3 ⟨r / 1536, by omega⟩ ⟨r % 1536, by omega⟩ d) := by
  entry_read
  pointwise

/-- The norm's weights as one row. -/
theorem w_at (d : Fin 2048) : (V m c main_v1 : S1x2048.Idx → EReal) (ix2 0 d) =
    (m ((c.tc : Thread nD τ).loc main_arg1) : S2048.Idx → EReal) (ix1 d) := by
  entry_read
  pointwise

/-- The query head norm's weights as one row. -/
theorem qw_at (l : Fin 128) : V m c main_v2 (ix2 0 l) = (m ((c.tc : Thread nD τ).loc main_arg4) : S128.Idx → EReal) (ix1 l) := by
  entry_read
  pointwise

/-- The key head norm's weights as one row. -/
theorem kw_at (l : Fin 128) : V m c main_v3 (ix2 0 l) = (m ((c.tc : Thread nD τ).loc main_arg5) : S128.Idx → EReal) (ix1 l) := by
  entry_read
  pointwise

end Cert.Qkv.EntryK

end

end
-- ==== Proof.EntryR.lean ====
module

public import proofs.«01_k».proof.Proof.Gen.ReferenceIdeal.Value
public import Idealize.ShloMosaic.Lib.Pipeline.ValueKit

@[expose] public section

set_option maxRecDepth 16384

noncomputable section

namespace Cert.Qkv.EntryR

open Idealize.ShloMosaic Idealize.ShloMosaic.TcCoe Cert.ReferenceIdeal Cert.ReferenceIdeal.Gen Cert.ReferenceIdeal.Value

variable (m : (ℓ : Loc nD τ sig) → Buf (Elt Ideal) ℓ) (c : Dev nD)

/-! The arrays the call reads, element by element of the arguments. -/

/-- The rows: row `r` is position `r % 1536` of sequence `r / 1536`. -/
theorem x_at (r : Fin 36864) (d : Fin 2048) : (V m c main_v0 : S36864x2048.Idx → EReal) (ix2 r d) =
    (m ((c.tc : Thread nD τ).loc main_arg0) : S24x1536x2048.Idx → EReal) (ix3 ⟨r / 1536, by omega⟩ ⟨r % 1536, by omega⟩ d) := by
  entry_read
  pointwise

/-- The norm's weights as one row. -/
theorem w_at (d : Fin 2048) : (V m c main_v1 : S1x2048.Idx → EReal) (ix2 0 d) =
    (m ((c.tc : Thread nD τ).loc main_arg1) : S2048.Idx → EReal) (ix1 d) := by
  entry_read
  pointwise

/-- The query head norm's weights as one row. -/
theorem qw_at (l : Fin 128) : V m c main_v2 (ix3 0 0 l) = (m ((c.tc : Thread nD τ).loc main_arg4) : S128.Idx → EReal) (ix1 l) := by
  entry_read
  pointwise

/-- The key head norm's weights as one row. -/
theorem kw_at (l : Fin 128) : V m c main_v3 (ix3 0 0 l) = (m ((c.tc : Thread nD τ).loc main_arg5) : S128.Idx → EReal) (ix1 l) := by
  entry_read
  pointwise

end Cert.Qkv.EntryR

end

end
-- ==== Proof.Finite.lean ====
module

public import proofs.«01_k».proof.Proof.Gen.Pre_finite_norm_w
public import Idealize.ShloMosaic.Lib.ReduceAll
public import Idealize.ShloMosaic.Lib.Pipeline.ValueKit

@[expose] public section

set_option maxRecDepth 16384

noncomputable section

namespace Cert.Qkv

open Idealize.ShloMosaic Cert.Pre_finite_norm_w Cert.Pre_finite_norm_w.Gen

/-- The precondition, read: no weight's magnitude exceeds the largest finite number. -/
theorem finite_of_pre (a0 : FVec Ideal S24x1536x2048 .bf16) (a1 : FVec Ideal S2048 .f32) (a2 : FVec Ideal S2048x4096 .fp8e4m3) (a3 : FVec Ideal S16x32 .f32)
    (a4 a5 : FVec Ideal S128 .f32) (h : Cert.Pre_finite_norm_w.fn a0 a1 a2 a3 a4 a5 = fun _ => 1#1) (d : Fin 2048) :
    max (a1 (ix1 d)) (-(a1 (ix1 d))) ≤ Ideal.ofBits .f32 2139095039#32 := by
  have hs : Subsingleton S_.Idx := ⟨fun a b => funext fun i => i.elim0⟩
  have e := Host.reduce_andi_all _ _ _ _ (fun i => i.elim0) (congrFun h (fun i => i.elim0)) (ix1 d)
  revert e
  pointwise
  intro e
  by_contra hd
  have hd' : ¬ FloatOps.absf (F := Ideal) (φ := .f32) (a1 (ix1 d)) ≤ Ideal.ofBits .f32 2139095039#32 := hd
  simp [hd'] at e

end Cert.Qkv

end

end
-- ==== Proof.Algebraic.lean ====
module

public import proofs.«01_k».proof.Defs
public import proofs.«01_k».proof.Proof.Arrays
public import proofs.«01_k».proof.Proof.Reference
public import proofs.«01_k».proof.Proof.EntryK
public import proofs.«01_k».proof.Proof.EntryR
public import proofs.«01_k».proof.Proof.Finite
public import Idealize.ShloMosaic.Adequacy
public import Idealize.ShloMosaic.Init

@[expose] public section

set_option maxRecDepth 16384

noncomputable section

namespace Cert.Qkv

open Idealize.ShloMosaic Idealize.ShloMosaic.TcCoe Idealize.SL.Sem

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-! From memories that agree on the arguments, the two calls read the same arrays. -/

/-- The two calls read the same rows. -/
theorem same_x (h : m' ((c.tc : Thread Cert.ReferenceIdeal.nD Cert.ReferenceIdeal.τ).loc Cert.ReferenceIdeal.main_arg0) =
    m ((c.tc : Thread Cert.KernelIdeal.nD Cert.KernelIdeal.τ).loc Cert.KernelIdeal.main_arg0)) : Ref.rX m' c = aX m c := by
  funext y
  rw [Ref.ix2_eta y]
  exact (EntryR.x_at m' c (y 0) (y 1)).trans ((congrFun h _).trans (EntryK.x_at m c (y 0) (y 1)).symm)

/-- An index of an array of one row is given by its column. -/
theorem eta_row {a : ℕ} (y : Shape.Idx ⟨2, ![1, a]⟩) : y = ix2 0 (y 1) := by
  funext i
  fin_cases i
  · exact Subsingleton.elim (α := Fin 1) _ _
  · rfl

/-- They read the same norm's weights. -/
theorem same_w (h : m' ((c.tc : Thread Cert.ReferenceIdeal.nD Cert.ReferenceIdeal.τ).loc Cert.ReferenceIdeal.main_arg1) =
    m ((c.tc : Thread Cert.KernelIdeal.nD Cert.KernelIdeal.τ).loc Cert.KernelIdeal.main_arg1)) : Ref.rW m' c = aW m c := by
  funext y
  rw [eta_row y]
  exact (EntryR.w_at m' c (y 1)).trans ((congrFun h _).trans (EntryK.w_at m c (y 1)).symm)

/-- They read the same weight codes. -/
theorem same_q (h : m' ((c.tc : Thread Cert.ReferenceIdeal.nD Cert.ReferenceIdeal.τ).loc Cert.ReferenceIdeal.main_arg2) =
    m ((c.tc : Thread Cert.KernelIdeal.nD Cert.KernelIdeal.τ).loc Cert.KernelIdeal.main_arg2)) : Ref.rQ m' c = aQ m c :=
  (Cert.ReferenceIdeal.Gen.V_main_arg2 m' c).trans (h.trans (Cert.KernelIdeal.Gen.V_main_arg2 m c).symm)

/-- They read the same weight scales. -/
theorem same_s (h : m' ((c.tc : Thread Cert.ReferenceIdeal.nD Cert.ReferenceIdeal.τ).loc Cert.ReferenceIdeal.main_arg3) =
    m ((c.tc : Thread Cert.KernelIdeal.nD Cert.KernelIdeal.τ).loc Cert.KernelIdeal.main_arg3)) : Ref.rS m' c = aS m c :=
  (Cert.ReferenceIdeal.Gen.V_main_arg3 m' c).trans (h.trans (Cert.KernelIdeal.Gen.V_main_arg3 m c).symm)

/-- They read the same query head norm's weights. -/
theorem same_qw (h : m' ((c.tc : Thread Cert.ReferenceIdeal.nD Cert.ReferenceIdeal.τ).loc Cert.ReferenceIdeal.main_arg4) =
    m ((c.tc : Thread Cert.KernelIdeal.nD Cert.KernelIdeal.τ).loc Cert.KernelIdeal.main_arg4)) : Ref.flat (Ref.rQw m' c) = aQw m c := by
  funext y
  rw [eta_row y]
  exact (EntryR.qw_at m' c (y 1)).trans ((congrFun h _).trans (EntryK.qw_at m c (y 1)).symm)

/-- They read the same key head norm's weights. -/
theorem same_kw (h : m' ((c.tc : Thread Cert.ReferenceIdeal.nD Cert.ReferenceIdeal.τ).loc Cert.ReferenceIdeal.main_arg5) =
    m ((c.tc : Thread Cert.KernelIdeal.nD Cert.KernelIdeal.τ).loc Cert.KernelIdeal.main_arg5)) : Ref.flat (Ref.rKw m' c) = aKw m c := by
  funext y
  rw [eta_row y]
  exact (EntryR.kw_at m' c (y 1)).trans ((congrFun h _).trans (EntryK.kw_at m c (y 1)).symm)

/-- The precondition at the array the call reads. -/
theorem finite_w (h : Cert.Pre_KernelIdeal_finite_norm_w (hPre_finite_norm_w := Cert.Pre_finite_norm_w.Gen.facts) m) (d : Fin 2048) :
    max (wRow (aW m c) d) (-(wRow (aW m c) d)) ≤ Ideal.ofBits .f32 2139095039#32 := by
  have e : wRow (aW m c) d = (m ((c.tc : Thread Cert.KernelIdeal.nD Cert.KernelIdeal.τ).loc Cert.KernelIdeal.main_arg1) : Cert.KernelIdeal.S2048.Idx → EReal) (ix1 d) :=
    EntryK.w_at m c d
  rw [e]
  exact finite_of_pre _ _ _ _ _ _ (h c) d
end

/-- The kernel and the reference end with the same five results. -/
theorem algebraic : Cert.algebraic_KernelIdeal_ReferenceIdeal_pre_finite_norm_w (hKernelIdeal := Cert.KernelIdeal.Gen.facts)
    (hReferenceIdeal := Cert.ReferenceIdeal.Gen.facts) (hPre_finite_norm_w := Cert.Pre_finite_norm_w.Gen.facts) := by
  intro m g m' g' hpre hagree
  refine ⟨fun c => Cert.KernelIdeal.Value.G6 m c, fun c => Cert.KernelIdeal.Value.G7 m c, fun c => Cert.KernelIdeal.Value.G8 m c,
    fun c => Cert.KernelIdeal.Value.G9 m c, fun c => Cert.KernelIdeal.Value.G10 m c, Cert.KernelIdeal.Value.run m g, ?_⟩
  refine (θ_run _ _ _).mono (fun r h c => ?_) (Cert.ReferenceIdeal.Value.run_blocks m' g')
  obtain ⟨a0, a1, a2, a3, a4, a5⟩ := hagree c
  obtain ⟨h6, h7, h8, h9, h10, k⟩ := h c
  have hw := finite_w m c hpre
  have eX := same_x m m' c a0
  have eW := same_w m m' c a1
  have eQ := same_q m m' c a2
  have eS := same_s m m' c a3
  have eA := same_qw m m' c a4
  have eB := same_kw m m' c a5
  refine ⟨h6.trans ((Ref.arr6 m' c).trans ?_), h7.trans ((Ref.arr7 m' c).trans ?_), h8.trans ((Ref.arr8 m' c).trans ?_),
    h9.trans ((Ref.arr9 m' c).trans ?_), h10.trans ((Ref.arr10 m' c).trans ?_), ?_⟩
  · rw [eX, eW, eQ, eS, eA]; exact (G6_eq m c hw).symm
  · rw [eX, eW, eQ, eS, eB]; exact (G7_eq m c hw).symm
  · rw [eX, eW, eQ, eS]; exact (G8_eq m c hw).symm
  · rw [eX, eW]; exact (G9_eq m c hw).symm
  · rw [eX, eW]; exact (G10_eq m c hw).symm
  · exact k

end Cert.Qkv

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_finite_norm_w
public import proofs.«01_k».proof.Proof.Gen.KernelIdeal.Value
public import proofs.«01_k».proof.Proof.Gen.ReferenceIdeal.Value
public import proofs.«01_k».proof.Proof.Algebraic
public import Idealize.ShloMosaic.Adequacy
public import Idealize.ShloMosaic.Init
public import Idealize.ShloMosaic.Lib.Bf16Pair

@[expose] public section

noncomputable section

namespace Cert.Proof

open Idealize.ShloMosaic Idealize.SL.Sem Cert.Kernel

/-- The claims: all three programs run and leave their arguments unchanged, from any memory and hence from any that meets the
    precondition; reading each 32-bit word of two packed bf16 numbers as the two numbers preserves the kernel; and over the
    extended reals the kernel and the reference end with the same five results. -/
theorem claim : Cert.Claim := ⟨Cert.Kernel.Gen.facts, Cert.KernelIdeal.Gen.facts, Cert.ReferenceIdeal.Gen.facts, Cert.Pre_finite_norm_w.Gen.facts,
  fun m g _ => Cert.Kernel.Gen.frame m g,
  fun m g _ => Cert.KernelIdeal.Gen.frame m g,
  fun m g _ => Cert.KernelIdeal.Gen.frame m g,
  fun m g _ => Cert.ReferenceIdeal.Gen.frame m g,
  fun m g _ => Cert.ReferenceIdeal.Gen.frame m g,
  ⟨IdealRules.bf16_pair.packStatement Cert.KernelIdeal.S512x128,
   IdealRules.bf16_pair.statement Cert.KernelIdeal.S512x2x128 Cert.KernelIdeal.S512x1x128⟩,
  Cert.Qkv.algebraic⟩

end Cert.Proof

end
